-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 1024, 512]⟩ ⟨3, ![4, 16384, 512]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 1024, 512]⟩ ⟨3, ![4, 16384, 512]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x512 : Shape := ⟨3, ![4, 1024, 512]⟩
abbrev S4x512 : Shape := ⟨2, ![4, 512]⟩
abbrev S8x520x512 : Shape := ⟨3, ![8, 520, 512]⟩
abbrev S8x512x512 : Shape := ⟨3, ![8, 512, 512]⟩
abbrev S4x8x512 : Shape := ⟨3, ![4, 8, 512]⟩
abbrev S8 : Shape := ⟨1, ![8]⟩
abbrev S_ : Shape := ⟨0, ![]⟩
abbrev S1 : Shape := ⟨1, ![1]⟩
abbrev S1x520x512 : Shape := ⟨3, ![1, 520, 512]⟩
abbrev S520x512 : Shape := ⟨2, ![520, 512]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S1x3x512 : Shape := ⟨3, ![1, 3, 512]⟩
abbrev S3x512 : Shape := ⟨2, ![3, 512]⟩

abbrev nBuf : Space → Nat
  | .hbm => 3
  | .vmem => 5
  | .smem => 0
  | _ => 0

abbrev bufTy : (tb : Table) → Fin (tcTables nBuf tb) → BufTy
  | .hbm, ⟨0, _⟩ => ⟨S4x1024x512, .f32⟩
  | .hbm, ⟨1, _⟩ => ⟨S4x512, .f32⟩
  | .hbm, ⟨2, _⟩ => ⟨S4x1024x512, .f32⟩
  | .local _ .vmem, ⟨0, _⟩ => ⟨S4x512, .f32⟩
  | .local _ .vmem, ⟨1, _⟩ => ⟨S8x520x512, .f32⟩
  | .local _ .vmem, ⟨2, _⟩ => ⟨S8x512x512, .f32⟩
  | .local _ .vmem, ⟨3, _⟩ => ⟨S4x8x512, .f32⟩
  | .local _ .vmem, ⟨4, _⟩ => ⟨S4x8x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_4 : BitVec 32 := 0#32
  let v9 : BitVec 1 := Scalar.cmpi .sgt v2 c0_i32_4
  let v10 : BitVec 32 := Scalar.extui v9
  let c0_i32_5 : BitVec 32 := 0#32
  let v11 : BitVec 1 := Scalar.cmpi .ne v10 c0_i32_5
  v11

def k0_dev1 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v3 : BitVec 1 := Scalar.cmpi .sgt v2 c0_i32
  let c1_i32_0 : BitVec 32 := 1#32
  let v4 : BitVec 32 := Scalar.subi v2 c1_i32_0
  let c15_i32 : BitVec 32 := 15#32
  let v5 : BitVec 32 := Scalar.select v3 v4 c15_i32
  let c1_i32_386 : BitVec 32 := 1#32
  let v559 : BitVec 32 := Scalar.muli v5 c1_i32_386
  let v560 : BitVec 32 := Scalar.addi c0_i32_387 v559
  v560.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_59 : BitVec 32 := 15#32
  let v62 : BitVec 1 := Scalar.cmpi .slt v2 c15_i32_59
  let v63 : BitVec 32 := Scalar.extui v62
  let c0_i32_60 : BitVec 32 := 0#32
  let v64 : BitVec 1 := Scalar.cmpi .ne v63 c0_i32_60
  v64

def k0_dev2 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1 : BitVec 32 := 15#32
  let v6 : BitVec 1 := Scalar.cmpi .slt v2 c15_i32_1
  let c1_i32_2 : BitVec 32 := 1#32
  let v7 : BitVec 32 := Scalar.addi v2 c1_i32_2
  let c0_i32_3 : BitVec 32 := 0#32
  let v8 : BitVec 32 := Scalar.select v6 v7 c0_i32_3
  let c1_i32_386 : BitVec 32 := 1#32
  let v559 : BitVec 32 := Scalar.muli v8 c1_i32_386
  let v560 : BitVec 32 := Scalar.addi c0_i32_387 v559
  v560.toNat
abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x16384x512 : Shape := ⟨3, ![4, 16384, 512]⟩
abbrev S4x512 : Shape := ⟨2, ![4, 512]⟩
abbrev S_ : Shape := ⟨0, ![]⟩
abbrev S4x3x512 : Shape := ⟨3, ![4, 3, 512]⟩
abbrev S4x16387x512 : Shape := ⟨3, ![4, 16387, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 41
  | .vmem => 0
  | .smem => 0
  | _ => 0

abbrev bufTy : (tb : Table) → Fin (tcTables nBuf tb) → BufTy
  | .hbm, ⟨0, _⟩ => ⟨S4x16384x512, .f32⟩
  | .hbm, ⟨1, _⟩ => ⟨S4x512, .f32⟩
  | .hbm, ⟨2, _⟩ => ⟨S_, .f32⟩
  | .hbm, ⟨3, _⟩ => ⟨S4x3x512, .f32⟩
  | .hbm, ⟨4, _⟩ => ⟨S4x16387x512, .f32⟩
  | .hbm, ⟨5, _⟩ => ⟨S_, .f32⟩
  | .hbm, ⟨6, _⟩ => ⟨S4x16384x512, .f32⟩
  | .hbm, ⟨7, _⟩ => ⟨S4x16384x512, .f32⟩
  | .hbm, ⟨8, _⟩ => ⟨S1x512, .f32⟩
  | .hbm, ⟨9, _⟩ => ⟨S512, .f32⟩
  | .hbm, ⟨10, _⟩ => ⟨S1x1x512, .f32⟩
  | .hbm, ⟨11, _⟩ => ⟨S4x16384x512, .f32⟩
  | .hbm, ⟨12, _⟩ => ⟨S4x16384x512, .f32⟩
  | .hbm, ⟨13, _⟩ => ⟨S4x16384x512, .f32⟩
  | .hbm, ⟨14, _⟩ => ⟨S4x16384x512, .f32⟩
  | .hbm, ⟨15, _⟩ => ⟨S1x512, .f32⟩
  | .hbm, ⟨16, _⟩ => ⟨S512, .f32⟩
  | .hbm, ⟨17, _⟩ => ⟨S1x1x512, .f32⟩
  | .hbm, ⟨18, _⟩ => ⟨S4x16384x512, .f32⟩
  | .hbm, ⟨19, _⟩ => ⟨S4x16384x512, .f32⟩
  | .hbm, ⟨20, _⟩ => ⟨S4x16384x512, .f32⟩
  | .hbm, ⟨21, _⟩ => ⟨S4x16384x512, .f32⟩
  | .hbm, ⟨22, _⟩ => ⟨S1x512, .f32⟩
  | .hbm, ⟨23, _⟩ => ⟨S512, .f32⟩
  | .hbm, ⟨24, _⟩ => ⟨S1x1x512, .f32⟩
  | .hbm, ⟨25, _⟩ => ⟨S4x16384x512, .f32⟩
  | .hbm, ⟨26, _⟩ => ⟨S4x16384x512, .f32⟩
  | .hbm, ⟨27, _⟩ => ⟨S4x16384x512, .f32⟩
  | .hbm, ⟨28, _⟩ => ⟨S4x16384x512, .f32⟩
  | .hbm, ⟨29, _⟩ => ⟨S1x512, .f32⟩
  | .hbm, ⟨30, _⟩ => ⟨S512, .f32⟩
  | .hbm, ⟨31, _⟩ => ⟨S1x1x512, .f32⟩
  | .hbm, ⟨32, _⟩ => ⟨S4x16384x512, .f32⟩
  | .hbm, ⟨33, _⟩ => ⟨S4x16384x512, .f32⟩
  | .hbm, ⟨34, _⟩ => ⟨S4x16384x512, .f32⟩
  | .hbm, ⟨35, _⟩ => ⟨S4x16384x512, .f32⟩
  | .hbm, ⟨36, _⟩ => ⟨S4x16384x512, .f32⟩
  | .hbm, ⟨37, _⟩ => ⟨S_, .f32⟩
  | .hbm, ⟨38, _⟩ => ⟨S4x16384x512, .f32⟩
  | .hbm, ⟨39, _⟩ => ⟨S4x16384x512, .f32⟩
  | .hbm, ⟨40, _⟩ => ⟨S4x16384x512, .f32⟩
  | _, _ => ⟨S4x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_cst_1 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩

abbrev nD : Nat := 1
abbrev τ : Topo := Topo.v7x

variable {F : FTy → Type} [FloatOps F]
-- ==== Proof.Sched.lean ====
/-
# The protocol of the halo exchange

Sixteen devices stand in a row. Each device `c` holds 1024 consecutive rows of the sequence and needs, for its first
three output rows, the last three rows of the device before it. The exchange uses three semaphores of each device:

* the BARRIER semaphore of `c` is raised by one by device `c + 1`, which thereby says that its halo buffer may be
  overwritten, and waited on by `c` before it sends (device 15 has nobody behind it: no raise, no wait);
* the RECEIVE semaphore of `c` is raised by the landing of the copy that device `c - 1` makes into `c`'s halo buffer, and
  waited on by `c` before it reads the halo (device 0 has nobody before it: no copy, no wait);
* the SEND semaphore of `c` is raised by the completion of its own copy to `c + 1`, and waited on by `c` at the end.

This module states that schedule for the rounds library, with the CONTENTS each landing hands over, the levels of the
semaphores, and what each device owes when the kernel starts. Every device carries the same ghost state, dealt around a
ring of sixteen; only the duties, the debts and the credits depend on where the device stands in the row.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.ConvProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: staging cells, the exchange's cells, the local copies' counters -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's cells live in the left half of the right component. -/
def ER : Emb UB (MT nD τ sig Unit (Elt F) ℕ UU ℕ) := (Emb.inl : Emb UB (UB × Counters)).trans embR

omit [FloatOps F] in
instance ER_landsIn : (ER (F := F)).LandsIn (upEmb : UEmb _ (MT nD τ sig Unit (Elt F) ℕ UU ℕ)) := by
  unfold ER; infer_instance

variable (m : (ℓ : Loc nD τ sig) → Buf (Elt F) ℓ)

/-! ## The row of devices -/

set_option backward.proofsInPublic true in
/-- The device after `c`, around the ring. -/
def nxt (c : Dev nD) : Dev nD := ⟨(c.val + 1) % 16, Nat.mod_lt _ (by decide)⟩
set_option backward.proofsInPublic true in
/-- The device before `c`, around the ring. -/
def prv (c : Dev nD) : Dev nD := ⟨(c.val + 15) % 16, Nat.mod_lt _ (by decide)⟩

theorem prv_nxt (c : Dev nD) : prv (nxt c) = c := by revert c; decide
theorem nxt_prv (c : Dev nD) : nxt (prv c) = c := by revert c; decide
def ring : Dev nD ≃ Dev nD := ⟨nxt, prv, prv_nxt, nxt_prv⟩

/-- `c` has a device behind it, to send to. -/
abbrev HasNext (c : Dev nD) : Prop := c.val < 15
/-- `c` has a device before it, to receive from. -/
abbrev HasPrev (c : Dev nD) : Prop := 0 < c.val

theorem hasPrev_nxt {c : Dev nD} (h : HasNext c) : HasPrev (nxt c) := by revert c; decide
theorem hasNext_prv {c : Dev nD} (h : HasPrev c) : HasNext (prv c) := by revert c; decide
theorem hasPrev_nxt_iff (c : Dev nD) : HasPrev (nxt c) ↔ HasNext c := by revert c; decide
theorem hasNext_prv_iff (c : Dev nD) : HasNext (prv c) ↔ HasPrev c := by revert c; decide
theorem nxt_val {c : Dev nD} (h : HasNext c) : (nxt c).val = c.val + 1 := by revert c; decide
theorem prv_val {c : Dev nD} (h : HasPrev c) : (prv c).val + 1 = c.val := by revert c; decide

/-! ## Semaphores and cells -/

/-- The runtime's barrier semaphore; the send and the receive semaphore. -/
abbrev barS : Sem sig := (SemArray.scalar (sig.barrier 0 rfl) : Sems sig S_).sem
abbrev sendS : DmaSem sig := cc0_scratch7.sem
abbrev recvS : DmaSem sig := cc0_scratch8.sem

abbrev barCell (c : Dev nD) : GSem nD τ sig := ((c : Thread nD τ), .reg barS)
abbrev sendCell (c : Dev nD) : GSem nD τ sig := ((c : Thread nD τ), .dma sendS)
abbrev recvCell (c : Dev nD) : GSem nD τ sig := ((c : Thread nD τ), .dma recvS)

/-- The exchange's three semaphores, and its cells. -/
abbrev csem : Fin 3 → SemLoc sig := fun | 0 => .reg barS | 1 => .dma sendS | 2 => .dma recvS
abbrev kcell (ck : Dev nD × Fin 3) : GSem nD τ sig := ((ck.1 : Thread nD τ), csem ck.2)

/-- What the copy of the four 8 × 512 tails raises its semaphores by. -/
abbrev N : ℕ := (Memref.whole cc0_scratch2 : Memref sig .tc .vmem S4x8x512 .f32).view.dmaCredit
theorem N_pos : 0 < N := View.dmaCredit_pos _ (by decide)

/-! ## Buffers and contents -/

abbrev xM : Memref sig .tc .hbm S4x1024x512 .f32 := Memref.whole main_arg0
abbrev kM : Memref sig .tc .vmem S4x512 .f32 := Memref.whole cc0_stg0_0
abbrev oM : Memref sig .tc .hbm S4x1024x512 .f32 := Memref.whole main_v1
abbrev bM : Memref sig .tc .vmem S8x520x512 .f32 := Memref.whole cc0_scratch0
abbrev obM : Memref sig .tc .vmem S8x512x512 .f32 := Memref.whole cc0_scratch1
abbrev hM : Memref sig .tc .vmem S4x8x512 .f32 := Memref.whole cc0_scratch2
abbrev sM : Memref sig .tc .vmem S4x8x512 .f32 := Memref.whole cc0_scratch3

/-- A whole buffer of device `c` at contents `f`, through its memref. -/
abbrev pts (c : Dev nD) {sp : Space} {s : Shape} {e : EltTy} (b : Memref sig .tc sp s e) (f : Buf (Elt F) (b.view.loc (c : Thread nD τ))) : sProp 𝕄 :=
  b.view.loc (c : Thread nD τ) ↦[Finset.univ]{fullShare} f

/-- Device `c`'s block of the sequence, as launched. -/
def xin (c : Dev nD) : Buf (Elt F) (xM.view.loc (c : Thread nD τ)) := m ((c : Thread nD τ).loc main_arg0)

/-- The window of `x` that is staged for sending: the last eight rows of each batch. -/
abbrev xTailM : Memref sig .tc .hbm S4x8x512 .f32 :=
  xM.slice (Rect.unit (s := S4x1024x512) ![0, 1016, 0] S4x8x512.size inb_S4x1024x512_S4x8x512_0_1016_0) (fun _ => rfl)

/-- The last eight rows of each batch of device `c`'s block. -/
def xtail (c : Dev nD) : Vec F S4x8x512 .f32 := xTailM.view.read (Elt F) (xin m c)

/-- The halo device `c` computes with: zeros on the first device, the last eight rows of the device before otherwise. -/
def haloOf (c : Dev nD) : Vec F S4x8x512 .f32 := if HasPrev c then xtail m (prv c) else k0_pay13

/-- The halo buffer, and the send buffer, of device `c`. -/
def haloPts (c : Dev nD) (f : Vec F S4x8x512 .f32) : sProp 𝕄 := pts c hM f
def sendPts (c : Dev nD) (f : Vec F S4x8x512 .f32) : sProp 𝕄 := pts c sM f

omit [FloatOps F] in
instance haloPts_storable (c : Dev nD) (f) : BI.Storable (upEmb : UEmb _ 𝕄) (haloPts (F := F) c f) := by unfold haloPts; infer_instance
omit [FloatOps F] in
instance sendPts_storable (c : Dev nD) (f) : BI.Storable (upEmb : UEmb _ 𝕄) (sendPts (F := F) c f) := by unfold sendPts; infer_instance

/-! ## The schedule -/

/-- What the raise of `c`'s barrier by the next device hands `c`: that device's halo buffer, and that it is at round 0 of
    its receive cell. -/
def barPay (c : Dev nD) : sProp 𝕄 := iprop((∃ f, haloPts (nxt c) f) ∗ reached ER (recvCell (nxt c)) 0)
/-- What the landing in `c`'s halo buffer hands `c`: the buffer holding the last rows of the device before. -/
def recvPay (c : Dev nD) : sProp 𝕄 := haloPts c (xtail m (prv c))
/-- What the completion of `c`'s own copy hands `c`: its send buffer back. -/
def sendPay (c : Dev nD) : sProp 𝕄 := sendPts c (xtail m c)

/-- The cells that have a duty: a barrier or send cell of a device with one behind it, a receive cell of a device with one
    before it. -/
abbrev HasDuty (g : GSem nD τ sig) : Prop :=
  g.1.2 = .tc ∧ ((g.2 = .reg barS ∧ HasNext g.1.1) ∨ (g.2 = .dma sendS ∧ HasNext g.1.1) ∨ (g.2 = .dma recvS ∧ HasPrev g.1.1))

/-- One round per cell, round 0, with one duty or none. -/
def ringRd : Rounds.Schedule (GSem nD τ sig) Unit 𝕄 where
  duties g r := if r = 0 ∧ HasDuty g then {()} else ∅
  unitless _ := False
  amount g _ _ := if g.2 = .reg barS then 1 else N
  payload g _ _ :=
    if g.2 = .reg barS then barPay g.1.1
    else if g.2 = .dma recvS then recvPay m g.1.1
    else if g.2 = .dma sendS then sendPay m g.1.1
    else iprop(emp)
  amount_pos g _ _ _ := by
    by_cases h : g.2 = .reg barS
    · rw [if_pos h]; exact Nat.one_pos
    · rw [if_neg h]; exact N_pos

instance ringRd_payload_storable (g : GSem nD τ sig) (r : ℕ) (d : Unit) :
    BI.Storable (upEmb : UEmb _ 𝕄) ((ringRd (F := F) m).payload g r d) := by
  show BI.Storable upEmb (if g.2 = .reg barS then barPay g.1.1 else if g.2 = .dma recvS then recvPay m g.1.1
    else if g.2 = .dma sendS then sendPay m g.1.1 else iprop(emp))
  unfold barPay recvPay sendPay
  (repeat' split) <;> infer_instance

section Sched
variable (c : Dev nD)

theorem send_ne_bar : (SemLoc.dma sendS : SemLoc sig) ≠ .reg barS := fun h => by cases h
theorem recv_ne_bar : (SemLoc.dma recvS : SemLoc sig) ≠ .reg barS := fun h => by cases h
theorem send_ne_recv : (SemLoc.dma sendS : SemLoc sig) ≠ .dma recvS := by decide
theorem recv_ne_send : (SemLoc.dma recvS : SemLoc sig) ≠ .dma sendS := by decide

omit [FloatOps F] in
theorem hasDuty_bar : HasDuty (barCell c) ↔ HasNext c :=
  ⟨fun h => h.2.elim (fun h => h.2) fun h => h.elim (fun h => absurd h.1.symm send_ne_bar) fun h => absurd h.1.symm recv_ne_bar, fun h => ⟨rfl, .inl ⟨rfl, h⟩⟩⟩
omit [FloatOps F] in
theorem hasDuty_send : HasDuty (sendCell c) ↔ HasNext c :=
  ⟨fun h => h.2.elim (fun h => h.2) fun h => h.elim (fun h => h.2) fun h => absurd h.1 send_ne_recv, fun h => ⟨rfl, .inr (.inl ⟨rfl, h⟩)⟩⟩
omit [FloatOps F] in
theorem hasDuty_recv : HasDuty (recvCell c) ↔ HasPrev c :=
  ⟨fun h => h.2.elim (fun h => absurd h.1 recv_ne_bar) fun h => h.elim (fun h => absurd h.1 recv_ne_send) fun h => h.2, fun h => ⟨rfl, .inr (.inr ⟨rfl, h⟩)⟩⟩

omit [FloatOps F] in
/-- A cell with a duty has it at round 0; -/
theorem duties_of {g : GSem nD τ sig} (h : HasDuty g) : (ringRd (F := F) m).duties g 0 = {()} := if_pos ⟨rfl, h⟩
omit [FloatOps F] in
/-- no cell has one later, -/
theorem duties_later (g : GSem nD τ sig) : ∀ r, 1 ≤ r → (ringRd (F := F) m).duties g r = ∅ :=
  fun r hr => if_neg fun h => by omega
omit [FloatOps F] in
/-- and a cell without one has none at all. -/
theorem duties_none {g : GSem nD τ sig} (h : ¬HasDuty g) : ∀ r, 0 ≤ r → (ringRd (F := F) m).duties g r = ∅ :=
  fun r _ => if_neg fun h' => h h'.2

omit [FloatOps F] in
theorem amount_bar (d : Unit) : (ringRd (F := F) m).amount (barCell c) 0 d = 1 := by dsimp only [ringRd]; exact if_pos rfl
omit [FloatOps F] in
theorem amount_send (d : Unit) : (ringRd (F := F) m).amount (sendCell c) 0 d = N := by dsimp only [ringRd]; exact if_neg send_ne_bar
omit [FloatOps F] in
theorem amount_recv (d : Unit) : (ringRd (F := F) m).amount (recvCell c) 0 d = N := by dsimp only [ringRd]; exact if_neg recv_ne_bar

omit [FloatOps F] in
theorem payload_bar (d : Unit) : (ringRd (F := F) m).payload (barCell c) 0 d = barPay c := by dsimp only [ringRd]; exact if_pos rfl
omit [FloatOps F] in
theorem payload_send (d : Unit) : (ringRd (F := F) m).payload (sendCell c) 0 d = sendPay m c := by
  dsimp only [ringRd]; rw [if_neg send_ne_bar, if_neg send_ne_recv, if_pos rfl]
omit [FloatOps F] in
theorem payload_recv (d : Unit) : (ringRd (F := F) m).payload (recvCell c) 0 d = recvPay m c := by
  dsimp only [ringRd]; rw [if_neg recv_ne_bar, if_pos rfl]

omit [FloatOps F] in
/-- A round of one duty is that duty: what it expects, and what is left of it when nothing was taken. -/
theorem expect_of {g : GSem nD τ sig} (h : HasDuty g) : (ringRd (F := F) m).expect g 0 = (ringRd (F := F) m).amount g 0 () := by
  unfold Schedule.expect Schedule.amountOf; rw [duties_of m h, Finset.sum_singleton]
omit [FloatOps F] in
theorem rest_of {g : GSem nD τ sig} (h : HasDuty g) :
    bigSep ((ringRd (F := F) m).duties g 0 \ ∅) (fun d => (ringRd (F := F) m).payload g 0 d) = (ringRd (F := F) m).payload g 0 () := by
  rw [Finset.sdiff_empty, duties_of m h, bigSep_singleton]

end Sched

/-! ## What each device owes when the kernel starts; the levels -/

/-- After its raise, device `c` owes the next device's receive cell the copy; -/
def O₁ (c : Dev nD) : CellTallies nD τ sig Unit := if HasNext c then tallyAt (recvCell (nxt c)) () N else 0
/-- before it, the barrier cell of the device before it a unit as well. -/
def O₀ (c : Dev nD) : CellTallies nD τ sig Unit := O₁ c + (if HasPrev c then tallyAt (barCell (prv c)) () 1 else 0)

def L (g : GSem nD τ sig) : Finset Unit := if g.1.2 = .tc then {()} else ∅
/-- Barrier cells at 1; the receive cell of device `c` at `c + 2`, rising along the row; everything else at 0. -/
def lv (g : GSem nD τ sig) (_ : Unit) : ℕ := if g.2 = .reg barS then 1 else if g.2 = .dma recvS then g.1.1.val + 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_recv (c : Dev nD) (u : Unit) : lv (recvCell c) u = c.val + 2 := by dsimp only [lv]; rw [if_neg recv_ne_bar, if_pos rfl]
/-- A device's own cells are below the receive cell of the next device. -/
theorem lv_own_le (c : Dev nD) (sm : SemLoc sig) (u : Unit) : lv ((c : Thread nD τ), sm) u ≤ c.val + 2 := by
  dsimp only [lv]; split
  · omega
  · split
    · exact le_refl _
    · omega

theorem O₁_pos {c : Dev nD} {g : GSem nD τ sig} {u : Unit} (h : 0 < O₁ c g u) : HasNext c ∧ g = recvCell (nxt c) := by
  unfold O₁ at h
  by_cases hn : HasNext c
  · rw [if_pos hn, tallyAt_apply] at h
    exact ⟨hn, by_contra fun hg => by rw [if_neg fun h' => hg h'.1] at h; exact Nat.lt_irrefl 0 h⟩
  · rw [if_neg hn] at h; exact absurd h (Nat.lt_irrefl 0)

theorem O₀_pos {c : Dev nD} {g : GSem nD τ sig} {u : Unit} (h : 0 < O₀ c g u) : (HasNext c ∧ g = recvCell (nxt c)) ∨ g = barCell (prv c) := by
  unfold O₀ at h
  rw [Pi.add_apply, Finsupp.add_apply] at h
  by_cases h1 : 0 < O₁ c g u
  · exact .inl (O₁_pos h1)
  · right
    have h2 : O₁ c g u = 0 := by omega
    rw [h2, Nat.zero_add] at h
    by_cases hp : HasPrev c
    · rw [if_pos hp, tallyAt_apply] at h
      exact by_contra fun hg => by rw [if_neg fun h' => hg h'.1] at h; exact Nat.lt_irrefl 0 h
    · rw [if_neg hp] at h; exact absurd h (Nat.lt_irrefl 0)

omit [FloatOps F] in
/-- Owing only the next device's receive cell, a device may wait on any of its own semaphores: the receive levels rise
    along the row. -/
theorem mayWaits_O₁ (c : Dev nD) : (levAts L lv : sProp 𝕄) ⊢ Transfers.MayWaits (c : Thread nD τ) () (O₁ c) :=
  Transfers.MayWaits.intro fun sm =>
    MayOwe.of_cut (L := L) (lev := lv) (c.val + 2) (fun p hp => by rw [Finset.mem_singleton.mp hp, L_tc]; exact Finset.mem_singleton_self _)
      (fun g u hg => by rw [(O₁_pos hg).2, L_tc]; exact Finset.mem_singleton_self _)
      (fun p hp => by rw [Finset.mem_singleton.mp hp]; exact lv_own_le c sm ())
      (fun g u hg => by rw [(O₁_pos hg).2, lv_recv, nxt_val (O₁_pos hg).1]; omega)

omit [FloatOps F] in
/-- The staging waits, on semaphores of level 0, are allowed at the start and at the end. -/
theorem mayWait_stage (c : Dev nD) (q : DmaSem sig) (hq : SemLoc.dma q ≠ .dma recvS) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨-, rfl⟩ | rfl <;> exact Finset.mem_singleton_self _)
      (fun p hp => by rw [Finset.mem_singleton.mp hp]; dsimp only [lv]; rw [if_neg (fun h => by cases h), if_neg hq])
      (fun g u hg => by
        rcases O₀_pos hg with ⟨-, rfl⟩ | rfl
        · rw [lv_recv]; omega
        · rw [lv_bar]; decide)
  · rw [MayWait_zero]; iintro -; iempintro

end Cert.ConvProof

end
-- ==== Proof.Exchange.lean ====
/-
# The exchange, step by step

The kernel's five conditional steps (raise the barrier of the device before; wait on one's own and send; wait for the
halo; clear the halo on the first device; wait for the send) each take a device from one state of the protocol to the
next. The states `St0 … St4` are the same expression on every device; a lemma per step runs it both where its condition
holds and where it does not, so that the run of the kernel body needs no case distinction.
-/
module

public import proofs.«01_k».proof.Proof.Sched

@[expose] public section

noncomputable section

namespace Cert.ConvProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The kernel's conditions and addresses -/

theorem cond1_iff (c : Dev nD) : k0_cond1 c = 1#1 ↔ HasPrev c := by revert c; decide
theorem cond2_iff (c : Dev nD) : k0_cond2 c = 1#1 ↔ HasNext c := by revert c; decide
theorem dev1_eq (c : Dev nD) (h : k0_cond1 c = 1#1) : (⟨k0_dev1 c, k0_dev1_lt c h⟩ : Dev nD) = prv c :=
  Fin.ext ((by decide : ∀ c : Dev nD, k0_cond1 c = 1#1 → k0_dev1 c = (prv c).val) c h)
theorem dev2_eq (c : Dev nD) (h : k0_cond2 c = 1#1) : (⟨k0_dev2 c, k0_dev2_lt c h⟩ : Dev nD) = nxt c :=
  Fin.ext ((by decide : ∀ c : Dev nD, k0_cond2 c = 1#1 → k0_dev2 c = (nxt c).val) c h)

/-! ## The states of the protocol -/

section States
variable (K : Dev nD × Fin 3 → ℕ) (c : Dev nD)

/-- The invariants device `c` opens, at the names `K` they were allocated at: its own three cells, the barrier cell of the
    device before, the receive cell of the device after; that those it raises are at round 0; and the levels. -/
def invs : sProp 𝕄 :=
  iprop(cellInv ER (ringRd m) (K (c, 0)) (barCell c) ∗ cellInv ER (ringRd m) (K (c, 1)) (sendCell c) ∗ cellInv ER (ringRd m) (K (c, 2)) (recvCell c)
    ∗ cellInv ER (ringRd m) (K (prv c, 0)) (barCell (prv c)) ∗ cellInv ER (ringRd m) (K (nxt c, 2)) (recvCell (nxt c))
    ∗ reached ER (barCell (prv c)) 0 ∗ reached ER (recvCell (nxt c)) 0 ∗ reached ER (sendCell c) 0 ∗ reached ER (recvCell c) 0 ∗ levAts L lv)

instance invs_persistent : BI.Persistent (invs m K c) := by unfold invs; infer_instance

/-- The halo buffer at any contents. -/
def haloAny : sProp 𝕄 := iprop(∃ f, haloPts c f)

/-- At the start: the positions, the tokens and the credits, and the halo buffer. -/
def St0 : sProp 𝕄 :=
  iprop(invs m K c ∗ atPos ER (barCell c) 0 ∅ 0 ∗ atPos ER (sendCell c) 0 ∅ 0 ∗ atPos ER (recvCell c) 0 ∅ 0
    ∗ dutyTok ER (barCell (prv c)) 0 () ∗ dutyTok ER (recvCell (nxt c)) 0 () ∗ dutyTok ER (sendCell c) 0 ()
    ∗ cred (tallyAt (barCell c) () (if HasNext c then 1 else 0)) ∗ cred (tallyAt (recvCell c) () (if HasPrev c then N else 0)) ∗ haloAny c)

/-- After the raise: the halo buffer is gone to the device before, on the first device it is still here. -/
def St1 : sProp 𝕄 :=
  iprop(invs m K c ∗ atPos ER (barCell c) 0 ∅ 0 ∗ atPos ER (sendCell c) 0 ∅ 0 ∗ atPos ER (recvCell c) 0 ∅ 0
    ∗ dutyTok ER (recvCell (nxt c)) 0 () ∗ dutyTok ER (sendCell c) 0 ()
    ∗ cred (tallyAt (barCell c) () (if HasNext c then 1 else 0)) ∗ cred (tallyAt (recvCell c) () (if HasPrev c then N else 0))
    ∗ (if HasPrev c then iprop(emp) else haloAny c))

/-- The copy under way, or on the last device the send buffer still here. -/
def sending : sProp 𝕄 :=
  if HasNext c then iprop(atPos ER (sendCell c) 0 ∅ 0 ∗ cred (tallyAt (sendCell c) () N)) else iprop(semVal (sendCell c) 0 ∗ sendPts c (xtail m c))

/-- After the send. -/
def St2 : sProp 𝕄 :=
  iprop(invs m K c ∗ semVal (barCell c) 0 ∗ sending m c ∗ atPos ER (recvCell c) 0 ∅ 0
    ∗ cred (tallyAt (recvCell c) () (if HasPrev c then N else 0)) ∗ (if HasPrev c then iprop(emp) else haloAny c))

/-- After the wait for the halo: it holds the rows of the device before; on the first device it is as it was. -/
def St3 : sProp 𝕄 :=
  iprop(invs m K c ∗ semVal (barCell c) 0 ∗ sending m c ∗ semVal (recvCell c) 0
    ∗ (if HasPrev c then haloPts c (haloOf m c) else haloAny c))

/-- After the halo is complete (it is then held apart): the cells that are still to be read back. -/
def St4 : sProp 𝕄 := iprop(invs m K c ∗ semVal (barCell c) 0 ∗ sending m c ∗ semVal (recvCell c) 0)

end States

omit [FloatOps F] in
theorem mem_duties {g : GSem nD τ sig} (h : HasDuty g) : () ∈ (ringRd (F := F) m).duties g 0 := by
  rw [duties_of m h]; exact Finset.mem_singleton_self _

/-! ## The five steps -/

section Steps
variable (K : Dev nD × Fin 3 → ℕ) (c : Dev nD)

/-- The weakest precondition of the rest of the program on device `c`. -/
abbrev wpc {γ : Type} (c : Dev nD) (p : Prog (TpuEff nD τ sig (Elt F) Λ₀ .tc) γ) (Q : γ → sProp 𝕄) : sProp 𝕄 :=
  wp frame (wpE (defs₀ (F := F)) 𝒱₀ (c : Thread nD τ) none) Set.univ p Q

/-- The raise: where there is a device before, its barrier goes up by one and it gets this device's halo buffer. -/
theorem step_raise {α β : Type} {Q : β → sProp 𝕄} {W : Waits sig Unit} {C : Prop} {inst : Decidable C} (hC : C ↔ HasPrev c)
    {n : C → Dev nD} (hn : ∀ h, n h = prv c) {p : Prog (TpuEff nD τ sig (Elt F) Λ₀ .tc) α} {k : α → Prog (TpuEff nD τ sig (Elt F) Λ₀ .tc) β} :
    iprop(St0 m K c ∗ owes (c : Thread nD τ) (O₀ c) W)
      ⊢ iprop(((St1 m K c ∗ owes (c : Thread nD τ) (O₁ c) W) -∗ wpc c (p >>= k) Q)
          -∗ wpc c ((dite C (fun h => semSignalWord (n h) barS 1#32 >>= fun _ => p)
              (fun _ => p)) >>= k) Q) := by
  by_cases h : C
  · have hp := hC.1 h
    rw [dif_pos h, hn h]
    simp only [semSignalWord, Prog.lift, Prog.bind_op, Prog.bind_ret, Prog.pure_eq_ret]
    unfold St0 St1 invs
    simp only [if_pos hp]
    iintro ⟨⟨⟨#I0, #I1, #I2, #I3, #I4, #R1, #R2, #R3, #R4, #Hlev⟩, Hb, Hs, Hr, Tb, Tr, Ts, Cb, Cr, Hh⟩, HO⟩ Hk
    iapply (Rounds.wp_signal 𝒱₀ ER (ringRd m) (c : Thread nD τ) none (dst := (prv c : Thread nD τ)) (κ := K (prv c, 0))
      (d := ()) (mem_duties m ((hasDuty_bar (prv c)).2 (hasNext_prv hp)))
      ((amount_bar m (prv c) ()).trans (by decide)) () (O₀ := O₀ c) (O₁ c) (show O₀ c = O₁ c + tallyAt (barCell (prv c)) () 1 by unfold O₀; rw [if_pos hp])) $$ [HO Tb Hh]
    · isplitr; · iexact I3
      isplitl [HO]; · iexact HO
      isplitl [Tb]; · iexact Tb
      isplitl [Hh]
      · rw [payload_bar]; unfold barPay; rw [nxt_prv]
        isplitl [Hh]; · unfold haloAny; iexact Hh
        iexact R4
      · iexact R1
    iintro HO
    iapply Hk
    isplitr [HO]
    · isplitr
      · isplitr; · iexact I0
        isplitr; · iexact I1
        isplitr; · iexact I2
        isplitr; · iexact I3
        isplitr; · iexact I4
        isplitr; · iexact R1
        isplitr; · iexact R2
        isplitr; · iexact R3
        isplitr; · iexact R4
        iexact Hlev
      isplitl [Hb]; · iexact Hb
      isplitl [Hs]; · iexact Hs
      isplitl [Hr]; · iexact Hr
      isplitl [Tr]; · iexact Tr
      isplitl [Ts]; · iexact Ts
      isplitl [Cb]; · iexact Cb
      isplitl [Cr]; · iexact Cr
      iempintro
    iexact HO
  · have hp : ¬HasPrev c := fun hp => h (hC.2 hp)
    rw [dif_neg h]
    unfold St0 St1
    simp only [if_neg hp]
    iintro ⟨⟨#I, Hb, Hs, Hr, Tb, Tr, Ts, Cb, Cr, Hh⟩, HO⟩ Hk
    iapply Hk
    isplitr [HO]
    · isplitr; · iexact I
      isplitl [Hb]; · iexact Hb
      isplitl [Hs]; · iexact Hs
      isplitl [Hr]; · iexact Hr
      isplitl [Tr]; · iexact Tr
      isplitl [Ts]; · iexact Ts
      isplitl [Cb]; · iexact Cb
      isplitl [Cr]; · iexact Cr
      iexact Hh
    · unfold O₀; rw [if_neg hp, add_zero]; iexact HO

/-- The unit-stride cut at the origin is the whole halo buffer. -/
abbrev hRect : Rect S4x8x512 := Rect.unit (s := S4x8x512) ![0, 0, 0] S4x8x512.size inb_S4x8x512_S4x8x512_0_0_0

omit [FloatOps F] in
theorem zeros3 : (![0, 0, 0] : Fin 3 → Nat) = fun _ => 0 := funext fun a => by fin_cases a <;> rfl
omit [FloatOps F] in
theorem write_halo (f w : (cc0_scratch2 : Ref sig .tc).ty.Contents (Elt F)) :
    ((hM : Memref sig .tc .vmem S4x8x512 .f32).access hRect : View sig .tc _ _ _).write (Elt F) f w Finset.univ = w :=
  Memref.write_access_unit_zero_univ (Elt F) cc0_scratch2 zeros3 _ f w
omit [FloatOps F] in
theorem hM_set : (hM : Memref sig .tc .vmem S4x8x512 .f32).view.set = Finset.univ := by
  simp only [Memref.view_whole, View.set_whole]
omit [FloatOps F] in
theorem sM_set : (sM : Memref sig .tc .vmem S4x8x512 .f32).view.set = Finset.univ := by
  simp only [Memref.view_whole, View.set_whole]

omit [FloatOps F] in
theorem landing (f g : Vec F S4x8x512 .f32) :
    View.write (Elt F) (hM : Memref sig .tc .vmem S4x8x512 .f32).view f (View.read (Elt F) (sM : Memref sig .tc .vmem S4x8x512 .f32).view g) Finset.univ = g :=
  View.write_whole_univ ..

/-- The send to the next device, addressed to `n = nxt c` (substituted, not rewritten). -/
theorem send_next (n : Dev nD) (hn : n = nxt c) (hx : HasNext c) {hsc : (hM : Memref sig (Dev.tc n : Thread nD τ).2.kind .vmem S4x8x512 .f32).view.ref.isScScratch = false}
    {hsrc : (sM : Memref sig .tc .vmem S4x8x512 .f32).view.WordExact} {hdst : (hM : Memref sig .tc .vmem S4x8x512 .f32).view.WordExact}
    {hsem : DmaTarget.Typed .vmem (.dma recvS) (.remote (Dev.tc n : Thread nD τ) (hM : Memref sig .tc .vmem S4x8x512 .f32) (.dma sendS) hsc)}
    {γ : Type} {Q : γ → sProp 𝕄} {k : PUnit → Prog (TpuEff nD τ sig (Elt F) Λ₀ .tc) γ} (fn : Vec F S4x8x512 .f32) (W : Waits sig Unit) :
    iprop(cellInv ER (ringRd m) (K (c, 1)) (sendCell c) ∗ cellInv ER (ringRd m) (K (nxt c, 2)) (recvCell (nxt c))
        ∗ sendPts c (xtail m c) ∗ haloPts (nxt c) fn ∗ owes (c : Thread nD τ) (O₁ c) W
        ∗ dutyTok ER (sendCell c) 0 () ∗ reached ER (sendCell c) 0 ∗ dutyTok ER (recvCell (nxt c)) 0 () ∗ reached ER (recvCell (nxt c)) 0)
      ⊢ iprop(((cred (tallyAt (sendCell c) () N) ∗ owes (c : Thread nD τ) 0 W) -∗ wpc c (k ⟨⟩) Q)
          -∗ wpc c (.op (.enqueueDma sM (.remote (Dev.tc n : Thread nD τ) hM (.dma sendS) hsc) (.dma recvS) hsrc hdst hsem) k) Q) := by
  subst hn
  unfold sendPts haloPts
  have h := Rounds.wp_send_pointsTo (defs := defs₀ (F := F)) (Q := Q) (k := k) (hsc := hsc) (hsrc := hsrc) (hdst := hdst) (hsem := hsem)
    𝒱₀ ER (ringRd m) (c : Thread nD τ) none (c' := (nxt c : Thread nD τ)) (src := sM) (dst := hM) (sS := .dma sendS) (sem := .dma recvS)
    (κ₁ := K (c, 1)) (κ₂ := K (nxt c, 2)) (r₁ := 0) (r₂ := 0) (d₁ := ()) (d₂ := ()) (q := fullShare) (fs := xtail m c) (fd := fn)
    (mem_duties m ((hasDuty_send c).2 hx)) (mem_duties m ((hasDuty_recv (nxt c)).2 (hasPrev_nxt hx)))
    () () N rfl (amount_send m c ()) (amount_recv m (nxt c) ()) (O₀ := O₁ c) 0 (by rw [zero_add]; unfold O₁; rw [if_pos hx]) (W := W)
    (by rw [payload_send]; unfold sendPay sendPts; rw [sM_set])
    (by rw [payload_recv]; unfold recvPay haloPts; rw [prv_nxt, hM_set, landing]) (Es := Set.univ) (Γ := ∅)
  rw [sM_set, hM_set] at h
  exact h

/-- The wait on the barrier, and the send: where there is a device behind, it has given its halo buffer and gets the rows. -/
theorem step_send {α β : Type} {Q : β → sProp 𝕄} {W : Waits sig Unit} {C : Prop} {inst : Decidable C} (hC : C ↔ HasNext c)
    {n : C → Dev nD} (hn : ∀ h, n h = nxt c) {p : Prog (TpuEff nD τ sig (Elt F) Λ₀ .tc) α}
    {hsrc : (sM : Memref sig .tc .vmem S4x8x512 .f32).view.WordExact} {hdst : (hM : Memref sig .tc .vmem S4x8x512 .f32).view.WordExact}
    {k : α → Prog (TpuEff nD τ sig (Elt F) Λ₀ .tc) β} :
    iprop(St1 m K c ∗ sendPts c (xtail m c) ∗ owes (c : Thread nD τ) (O₁ c) W)
      ⊢ iprop(((St2 m K c ∗ ∃ W', owes (c : Thread nD τ) 0 W') -∗ wpc c (p >>= k) Q)
          -∗ wpc c ((dite C (fun h => semWaitWord barS 1#32 >>= fun _ =>
                Prog.lift (.enqueueDma sM (.remote (Dev.tc (n h)) hM (.dma sendS)) (.dma recvS) hsrc hdst ⟨⟨rfl, Or.inl rfl⟩, trivial⟩) >>= fun _ => p)
              (fun _ => p)) >>= k) Q) := by
  by_cases h : C
  · have hx := hC.1 h
    rw [dif_pos h]
    simp only [semWaitWord, Prog.lift, Prog.bind_op, Prog.bind_ret, Prog.pure_eq_ret]
    unfold St1 St2 sending invs
    simp only [if_pos hx]
    iintro ⟨⟨⟨#I0, #I1, #I2, #I3, #I4, #R1, #R2, #R3, #R4, #Hlev⟩, Hb, Hs, Hr, Tr, Ts, Cb, Cr, Hh⟩, Hsend, HO⟩ Hk
    iapply (Rounds.wp_wait_rest_token 𝒱₀ ER (ringRd m) (c : Thread nD τ) none (κ := K (c, 0))
      (wpE_semWait_eq 𝒱₀ (c : Thread nD τ) none Set.univ) (Set.mem_univ _) () (O := O₁ c) (W := W) (R := 0) (m := 0) (T := ∅)
      (by rw [expect_of m ((hasDuty_bar c).2 hx), amount_bar]; decide)) $$ [Cb HO Hb]
    · isplitr; · iexact I0
      isplitl [Cb]; · iexact Cb
      isplitl [HO]; · iexact HO
      isplitr; · iapply ((mayWaits_O₁ c).trans (Transfers.MayWaits.elim (.reg barS))); iexact Hlev
      iexact Hb
    iintro ⟨HO, Hb, -, Hpay⟩
    ihave Hp := (Entails.of_eq ((rest_of m ((hasDuty_bar c).2 hx)).trans (payload_bar m c ()))) $$ Hpay
    unfold barPay
    icases Hp with ⟨⟨%fn, Hn⟩, -⟩
    imod (Rounds.cell_close ER (ringRd m) (Set.mem_univ (K (c, 0))) (fun h => h) (R := 0 + 1) (duties_later m (barCell c))) $$ [Hb] with HzB
    · isplitr; · iexact I0
      iexact Hb
    iapply (send_next m K c _ (hn h) hx fn _) $$ [Hsend Hn HO Ts Tr]
    · isplitr; · iexact I1
      isplitr; · iexact I4
      isplitl [Hsend]; · iexact Hsend
      isplitl [Hn]; · iexact Hn
      isplitl [HO]; · iexact HO
      isplitl [Ts]; · iexact Ts
      isplitr; · iexact R3
      isplitl [Tr]; · iexact Tr
      iexact R2
    iintro ⟨HcS, HO⟩
    iapply Hk
    isplitr [HO]
    · isplitr
      · isplitr; · iexact I0
        isplitr; · iexact I1
        isplitr; · iexact I2
        isplitr; · iexact I3
        isplitr; · iexact I4
        isplitr; · iexact R1
        isplitr; · iexact R2
        isplitr; · iexact R3
        isplitr; · iexact R4
        iexact Hlev
      isplitl [HzB]; · iexact HzB
      isplitl [Hs HcS]
      · isplitl [Hs] <;> iassumption
      isplitl [Hr]; · iexact Hr
      isplitl [Cr]; · iexact Cr
      iexact Hh
    iexists _; iexact HO
  · have hx : ¬HasNext c := fun hp => h (hC.2 hp)
    rw [dif_neg h]
    unfold St1 St2 sending
    rw [show O₁ c = 0 from if_neg hx]
    simp only [if_neg hx]
    unfold invs
    iintro ⟨⟨⟨#I0, #I1, #I2, #I3, #I4, #R1, #R2, #R3, #R4, #Hlev⟩, Hb, Hs, Hr, Tr, Ts, Cb, Cr, Hh⟩, Hsend, HO⟩ Hk
    imod (Rounds.cell_close ER (ringRd m) (Set.mem_univ (K (c, 0))) (fun h => h) (R := 0) (duties_none m fun hd => hx ((hasDuty_bar c).1 hd))) $$ [Hb] with HzB
    · isplitr; · iexact I0
      iexact Hb
    imod (Rounds.cell_close ER (ringRd m) (Set.mem_univ (K (c, 1))) (fun h => h) (R := 0) (duties_none m fun hd => hx ((hasDuty_send c).1 hd))) $$ [Hs] with HzS
    · isplitr; · iexact I1
      iexact Hs
    iapply Hk
    isplitr [HO]
    · isplitr
      · isplitr; · iexact I0
        isplitr; · iexact I1
        isplitr; · iexact I2
        isplitr; · iexact I3
        isplitr; · iexact I4
        isplitr; · iexact R1
        isplitr; · iexact R2
        isplitr; · iexact R3
        isplitr; · iexact R4
        iexact Hlev
      isplitl [HzB]; · iexact HzB
      isplitl [HzS Hsend]
      · isplitl [HzS] <;> iassumption
      isplitl [Hr]; · iexact Hr
      isplitl [Cr]; · iexact Cr
      iexact Hh
    iexists _; iexact HO

/-- The wait for the halo. -/
theorem step_halo {α β : Type} {Q : β → sProp 𝕄} {W : Waits sig Unit} {C : Prop} {inst : Decidable C} (hC : C ↔ HasPrev c)
    {h₁ : (sM : Memref sig .tc .vmem S4x8x512 .f32).view.WordExact} {h₂ : (hM : Memref sig .tc .vmem S4x8x512 .f32).view.WordExact}
    {p : Prog (TpuEff nD τ sig (Elt F) Λ₀ .tc) α} {k : α → Prog (TpuEff nD τ sig (Elt F) Λ₀ .tc) β} :
    iprop(St2 m K c ∗ owes (c : Thread nD τ) 0 W)
      ⊢ iprop(((St3 m K c ∗ ∃ W', owes (c : Thread nD τ) 0 W') -∗ wpc c (p >>= k) Q)
          -∗ wpc c ((dite C (fun _ => Prog.lift (.waitDma2 recvS sM hM h₁ h₂) >>= fun _ => p) (fun _ => p)) >>= k) Q) := by
  by_cases h : C
  · have hx := hC.1 h
    rw [dif_pos h]
    simp only [Prog.lift, Prog.bind_op, Prog.bind_ret, Prog.pure_eq_ret]
    unfold St2 St3 invs
    simp only [if_pos hx]
    iintro ⟨⟨⟨#I0, #I1, #I2, #I3, #I4, #R1, #R2, #R3, #R4, #Hlev⟩, Hb, Hs, Hr, Cr, -⟩, HO⟩ Hk
    iapply (Rounds.wp_wait_rest_token 𝒱₀ ER (ringRd m) (c : Thread nD τ) none (κ := K (c, 2))
      (wpE_waitDma2_eq 𝒱₀ (c : Thread nD τ) none Set.univ) (Set.mem_univ _) () (O := 0) (W := W) (R := 0) (m := 0) (T := ∅)
      (by rw [expect_of m ((hasDuty_recv c).2 hx), amount_recv, Nat.zero_add]; rfl)) $$ [Cr HO Hr]
    · isplitr; · iexact I2
      isplitl [Cr]; · iexact Cr
      isplitl [HO]; · iexact HO
      isplitr; · rw [MayWait_zero]; iempintro
      iexact Hr
    iintro ⟨HO, Hr, -, Hpay⟩
    ihave Hp := (Entails.of_eq ((rest_of m ((hasDuty_recv c).2 hx)).trans (payload_recv m c ()))) $$ Hpay
    unfold recvPay
    imod (Rounds.cell_close ER (ringRd m) (Set.mem_univ (K (c, 2))) (fun h => h) (R := 0 + 1) (duties_later m (recvCell c))) $$ [Hr] with HzR
    · isplitr; · iexact I2
      iexact Hr
    iapply Hk
    isplitr [HO]
    · isplitr
      · isplitr; · iexact I0
        isplitr; · iexact I1
        isplitr; · iexact I2
        isplitr; · iexact I3
        isplitr; · iexact I4
        isplitr; · iexact R1
        isplitr; · iexact R2
        isplitr; · iexact R3
        isplitr; · iexact R4
        iexact Hlev
      isplitl [Hb]; · iexact Hb
      isplitl [Hs]; · iexact Hs
      isplitl [HzR]; · iexact HzR
      rw [show haloOf m c = xtail m (prv c) from if_pos hx]
      iexact Hp
    iexists _; iexact HO
  · have hx : ¬HasPrev c := fun hp => h (hC.2 hp)
    rw [dif_neg h]
    unfold St2 St3 invs
    simp only [if_neg hx]
    iintro ⟨⟨⟨#I0, #I1, #I2, #I3, #I4, #R1, #R2, #R3, #R4, #Hlev⟩, Hb, Hs, Hr, Cr, Hh⟩, HO⟩ Hk
    imod (Rounds.cell_close ER (ringRd m) (Set.mem_univ (K (c, 2))) (fun h => h) (R := 0) (duties_none m fun hd => hx ((hasDuty_recv c).1 hd))) $$ [Hr] with HzR
    · isplitr; · iexact I2
      iexact Hr
    iapply Hk
    isplitr [HO]
    · isplitr
      · isplitr; · iexact I0
        isplitr; · iexact I1
        isplitr; · iexact I2
        isplitr; · iexact I3
        isplitr; · iexact I4
        isplitr; · iexact R1
        isplitr; · iexact R2
        isplitr; · iexact R3
        isplitr; · iexact R4
        iexact Hlev
      isplitl [Hb]; · iexact Hb
      isplitl [Hs]; · iexact Hs
      isplitl [HzR]; · iexact HzR
      iexact Hh
    iexists _; iexact HO

/-- The clearing of the halo on the first device: afterwards the halo buffer is complete on every device. -/
theorem step_clear {α β : Type} {Q : β → sProp 𝕄} {C : Prop} {inst : Decidable C} (hC : C ↔ ¬HasPrev c) {h₁ h₂ h₃}
    {p : Prog (TpuEff nD τ sig (Elt F) Λ₀ .tc) α} {k : α → Prog (TpuEff nD τ sig (Elt F) Λ₀ .tc) β} :
    St3 m K c
      ⊢ iprop(((St4 m K c ∗ pts c hM (haloOf m c)) -∗ wpc c (p >>= k) Q)
          -∗ wpc c ((dite C (fun _ => Prog.lift (.load hM hRect.toLoadRect h₁) >>= fun _ =>
              Prog.lift (.store hM hRect (k0_pay13 (F := F)) Finset.univ h₂ h₃) >>= fun _ => p) (fun _ => p)) >>= k) Q) := by
  by_cases h : C
  · have hx := hC.1 h
    rw [dif_pos h]
    simp only [Prog.lift, Prog.bind_op, Prog.bind_ret, Prog.pure_eq_ret]
    unfold St3 St4 haloAny haloPts
    simp only [if_neg hx]
    iintro ⟨HI, Hb, Hs, Hr, ⟨%f, Hh⟩⟩ Hk
    iapply (wp_load 𝒱₀ (c : Thread nD τ) none Set.univ (m := hM) (Finset.subset_univ _)) $$ Hh; iintro Hh
    iapply (wp_store 𝒱₀ (c : Thread nD τ) none Set.univ (m := hM) (r := hRect) (Mk := Finset.univ) (Finset.subset_univ _)) $$ Hh; iintro Hh
    rw [write_halo]
    iapply Hk
    isplitr [Hh]
    · isplitl [HI]; · iexact HI
      isplitl [Hb]; · iexact Hb
      isplitl [Hs] <;> iassumption
    rw [show haloOf m c = k0_pay13 from if_neg hx]
    iexact Hh
  · have hx : HasPrev c := by_contra fun hp => h (hC.2 hp)
    rw [dif_neg h]
    unfold St3 St4 haloPts
    simp only [if_pos hx]
    iintro ⟨HI, Hb, Hs, Hr, Hh⟩ Hk
    iapply Hk
    isplitr [Hh]
    · isplitl [HI]; · iexact HI
      isplitl [Hb]; · iexact Hb
      isplitl [Hs] <;> iassumption
    iexact Hh

/-- The wait for the device's own copy: the send buffer is back. -/
theorem step_done {β : Type} {Q : β → sProp 𝕄} {W : Waits sig Unit} {C : Prop} {inst : Decidable C} (hC : C ↔ HasNext c)
    {h₁ : (hM : Memref sig .tc .vmem S4x8x512 .f32).view.WordExact} {h₂ : (sM : Memref sig .tc .vmem S4x8x512 .f32).view.WordExact}
    {p : Prog (TpuEff nD τ sig (Elt F) Λ₀ .tc) β} :
    iprop(St4 m K c ∗ owes (c : Thread nD τ) 0 W)
      ⊢ iprop(((semVal (barCell c) 0 ∗ semVal (sendCell c) 0 ∗ semVal (recvCell c) 0 ∗ sendPts c (xtail m c) ∗ ∃ W', owes (c : Thread nD τ) 0 W')
            -∗ wpc c p Q)
          -∗ wpc c ((dite C (fun _ => Prog.lift (.waitDma2 sendS hM sM h₁ h₂) >>= fun _ => p) (fun _ => p))) Q) := by
  by_cases h : C
  · have hx := hC.1 h
    rw [dif_pos h]
    simp only [Prog.lift, Prog.bind_op, Prog.bind_ret, Prog.pure_eq_ret]
    unfold St4 sending invs
    simp only [if_pos hx]
    iintro ⟨⟨⟨#I0, #I1, #I2, #I3, #I4, #R1, #R2, #R3, #R4, #Hlev⟩, Hb, ⟨Hs, Cs⟩, Hr⟩, HO⟩ Hk
    iapply (Rounds.wp_wait_rest_token 𝒱₀ ER (ringRd m) (c : Thread nD τ) none (κ := K (c, 1))
      (wpE_waitDma2_eq 𝒱₀ (c : Thread nD τ) none Set.univ) (Set.mem_univ _) () (O := 0) (W := W) (R := 0) (m := 0) (T := ∅)
      (by rw [expect_of m ((hasDuty_send c).2 hx), amount_send, Nat.zero_add]; rfl)) $$ [Cs HO Hs]
    · isplitr; · iexact I1
      isplitl [Cs]; · iexact Cs
      isplitl [HO]; · iexact HO
      isplitr; · rw [MayWait_zero]; iempintro
      iexact Hs
    iintro ⟨HO, Hs, -, Hpay⟩
    ihave Hp := (Entails.of_eq ((rest_of m ((hasDuty_send c).2 hx)).trans (payload_send m c ()))) $$ Hpay
    unfold sendPay
    imod (Rounds.cell_close ER (ringRd m) (Set.mem_univ (K (c, 1))) (fun h => h) (R := 0 + 1) (duties_later m (sendCell c))) $$ [Hs] with HzS
    · isplitr; · iexact I1
      iexact Hs
    iapply Hk
    isplitl [Hb]; · iexact Hb
    isplitl [HzS]; · iexact HzS
    isplitl [Hr]; · iexact Hr
    isplitl [Hp]; · iexact Hp
    iexists _; iexact HO
  · have hx : ¬HasNext c := fun hp => h (hC.2 hp)
    rw [dif_neg h]
    unfold St4 sending
    simp only [if_neg hx]
    iintro ⟨⟨-, Hb, ⟨Hs, Hp⟩, Hr⟩, HO⟩ Hk
    iapply Hk
    isplitl [Hb]; · iexact Hb
    isplitl [Hs]; · iexact Hs
    isplitl [Hr]; · iexact Hr
    isplitl [Hp]; · iexact Hp
    iexists _; iexact HO

end Steps

end Cert.ConvProof

end
-- ==== Proof.Windows.lean ====
/-
# Windows of three-dimensional buffers

The kernel moves SLABS: the window of rows `b, …, b + R - 1` of batch `a` of a buffer of shape `A × B × C`, sometimes seen
as a `1 × R × C` block and sometimes as an `R × C` matrix. Here is, once for all sizes, what a write through such a window
leaves at an index of the buffer and what a read through it finds.
-/
module

public import Idealize.ShloMosaic.Lib.Pipeline.Value
public import Idealize.ShloMosaic.Lib.Writes

@[expose] public section

noncomputable section

namespace Cert.ConvProof

open Idealize.ShloMosaic

/-! ## Indices by their coordinates -/

/-- The index with coordinates `a, b, c`, each taken modulo the extent. -/
def ix3 {A B C : ℕ} [NeZero A] [NeZero B] [NeZero C] (a b c : ℕ) : (⟨3, ![A, B, C]⟩ : Shape).Idx
  | ⟨0, _⟩ => (Fin.ofNat A a : Fin A)
  | ⟨1, _⟩ => (Fin.ofNat B b : Fin B)
  | ⟨2, _⟩ => (Fin.ofNat C c : Fin C)

/-- The matrix index with coordinates `b, c`, each taken modulo the extent. -/
def ix2 {B C : ℕ} [NeZero B] [NeZero C] (b c : ℕ) : (⟨2, ![B, C]⟩ : Shape).Idx
  | ⟨0, _⟩ => (Fin.ofNat B b : Fin B)
  | ⟨1, _⟩ => (Fin.ofNat C c : Fin C)

theorem ext3 {A B C : ℕ} {i j : (⟨3, ![A, B, C]⟩ : Shape).Idx} (h0 : (i 0).val = (j 0).val) (h1 : (i 1).val = (j 1).val) (h2 : (i 2).val = (j 2).val) : i = j := by
  funext a
  match a with
  | ⟨0, _⟩ => exact Fin.ext h0
  | ⟨1, _⟩ => exact Fin.ext h1
  | ⟨2, _⟩ => exact Fin.ext h2

theorem lt0 {A B C : ℕ} (i : (⟨3, ![A, B, C]⟩ : Shape).Idx) : (i 0).val < A := (i 0).isLt
theorem lt1 {A B C : ℕ} (i : (⟨3, ![A, B, C]⟩ : Shape).Idx) : (i 1).val < B := (i 1).isLt
theorem lt2 {A B C : ℕ} (i : (⟨3, ![A, B, C]⟩ : Shape).Idx) : (i 2).val < C := (i 2).isLt

theorem ext2 {B C : ℕ} {i j : (⟨2, ![B, C]⟩ : Shape).Idx} (h0 : (i 0).val = (j 0).val) (h1 : (i 1).val = (j 1).val) : i = j := by
  funext a
  match a with
  | ⟨0, _⟩ => exact Fin.ext h0
  | ⟨1, _⟩ => exact Fin.ext h1

section
variable {A B C : ℕ} [NeZero A] [NeZero B] [NeZero C]

theorem ix3_0 (a b c : ℕ) : ((ix3 a b c : (⟨3, ![A, B, C]⟩ : Shape).Idx) 0).val = a % A := rfl
theorem ix3_1 (a b c : ℕ) : ((ix3 a b c : (⟨3, ![A, B, C]⟩ : Shape).Idx) 1).val = b % B := rfl
theorem ix3_2 (a b c : ℕ) : ((ix3 a b c : (⟨3, ![A, B, C]⟩ : Shape).Idx) 2).val = c % C := rfl
theorem ix2_0 (b c : ℕ) : ((ix2 b c : (⟨2, ![B, C]⟩ : Shape).Idx) 0).val = b % B := rfl
theorem ix2_1 (b c : ℕ) : ((ix2 b c : (⟨2, ![B, C]⟩ : Shape).Idx) 1).val = c % C := rfl

theorem ix3_self (i : (⟨3, ![A, B, C]⟩ : Shape).Idx) : ix3 (i 0).val (i 1).val (i 2).val = i :=
  ext3 (Nat.mod_eq_of_lt (lt0 i)) (Nat.mod_eq_of_lt (lt1 i)) (Nat.mod_eq_of_lt (lt2 i))

end

/-! ## Writes and reads through a slab -/

section Slab
variable {sig : RefSig} {κ : Kind} {sp : Space} {e : EltTy} {Val : EltTy → Type} {A B C R a b : ℕ} [NeZero R] [NeZero C]
variable (v : View sig κ sp ⟨3, ![A, B, C]⟩ e)
  (inb : ∀ x, (![a, b, 0] : Fin 3 → ℕ) x + (![1, R, C] : Fin 3 → ℕ) x ≤ (![A, B, C] : Fin 3 → ℕ) x)

/-- The slab's `1 × R × C` window, -/
abbrev slab : View sig κ sp ⟨3, ![1, R, C]⟩ e := v.slice (Rect.unit (s := ⟨3, ![A, B, C]⟩) ![a, b, 0] ![1, R, C] inb)

/-- places its index `y` at `(a, b + y 1, y 2)`; -/
theorem slab_emb {i : (⟨3, ![A, B, C]⟩ : Shape).Idx} (y : (⟨3, ![1, R, C]⟩ : Shape).Idx)
    (h0 : (i 0).val = a) (h1 : (i 1).val = b + (y 1).val) (h2 : (i 2).val = (y 2).val) : (slab v inb).emb y = v.emb i := by
  show v.emb ((Rect.unit (s := ⟨3, ![A, B, C]⟩) ![a, b, 0] ![1, R, C] inb).emb y) = v.emb i
  refine congrArg v.emb (ext3 ?_ ?_ ?_)
  · rw [h0]; have := (y 0).isLt; show a + 1 * (y 0).val = a; change (y 0).val < 1 at this; omega
  · rw [h1]; show b + 1 * (y 1).val = _; omega
  · rw [h2]; show 0 + 1 * (y 2).val = _; omega

/-- as does the `R × C` matrix seen of it. -/
theorem slab_mat_emb (hr : (⟨2, ![R, C]⟩ : Shape).numel = (⟨3, ![1, R, C]⟩ : Shape).numel) {i : (⟨3, ![A, B, C]⟩ : Shape).Idx} (y : (⟨2, ![R, C]⟩ : Shape).Idx)
    (h0 : (i 0).val = a) (h1 : (i 1).val = b + (y 0).val) (h2 : (i 2).val = (y 1).val) : ((slab v inb).reshape ⟨2, ![R, C]⟩ hr).emb y = v.emb i := by
  have h : ((slab v inb).reshape ⟨2, ![R, C]⟩ hr).emb y = (slab v inb).emb (Fin.cons ⟨0, Nat.one_pos⟩ y) :=
    congrArg (slab v inb).emb (Shape.reshapeEquiv_cons_one hr y)
  rw [h]
  exact slab_emb v inb _ h0 h1 h2

theorem slab_not_mem {i : (⟨3, ![A, B, C]⟩ : Shape).Idx} (h : ¬((i 0).val = a ∧ b ≤ (i 1).val ∧ (i 1).val < b + R)) : v.emb i ∉ (slab v inb).set := by
  rw [View.set_slice, Finset.mem_map]
  rintro ⟨j, hj, hji⟩
  have hji := v.emb.injective hji
  subst hji
  have hj := Rect.mem_set_unit.mp hj
  have h0 := hj 0; have h1 := hj 1
  change a ≤ (j 0).val ∧ (j 0).val < a + 1 at h0
  change b ≤ (j 1).val ∧ (j 1).val < b + R at h1
  exact h ⟨by omega, h1⟩

/-- A write through the `1 × R × C` window, at an index of the buffer. -/
theorem write_slab (f : v.ty.Contents Val) (w : (⟨3, ![1, R, C]⟩ : Shape).Idx → Val e) (i : (⟨3, ![A, B, C]⟩ : Shape).Idx) :
    v.read Val ((slab v inb).write Val f w Finset.univ) i
      = if (i 0).val = a ∧ b ≤ (i 1).val ∧ (i 1).val < b + R then w (ix3 0 ((i 1).val - b) (i 2).val) else v.read Val f i := by
  split
  · next h =>
    have hy := slab_emb v inb (i := i) (ix3 0 ((i 1).val - b) (i 2).val) h.1 (by rw [ix3_1, Nat.mod_eq_of_lt (by omega)]; omega)
      (by rw [ix3_2, Nat.mod_eq_of_lt (lt2 i)])
    rw [View.read_apply, ← hy]
    exact View.read_write_of_mem (v := slab v inb) f w (Finset.mem_univ _)
  · next h =>
    rw [View.read_apply, View.read_apply]
    exact congrArg _ (View.write_of_not_mem (v := slab v inb) f w _ (by rw [View.setOn_univ]; exact slab_not_mem v inb h))

/-- A write through the `R × C` matrix, at an index of the buffer. -/
theorem write_slab_mat (hr : (⟨2, ![R, C]⟩ : Shape).numel = (⟨3, ![1, R, C]⟩ : Shape).numel) (f : v.ty.Contents Val)
    (w : (⟨2, ![R, C]⟩ : Shape).Idx → Val e) (i : (⟨3, ![A, B, C]⟩ : Shape).Idx) :
    v.read Val (((slab v inb).reshape ⟨2, ![R, C]⟩ hr).write Val f w Finset.univ) i
      = if (i 0).val = a ∧ b ≤ (i 1).val ∧ (i 1).val < b + R then w (ix2 ((i 1).val - b) (i 2).val) else v.read Val f i := by
  split
  · next h =>
    have hy := slab_mat_emb v inb hr (i := i) (ix2 ((i 1).val - b) (i 2).val) h.1 (by rw [ix2_0, Nat.mod_eq_of_lt (by omega)]; omega)
      (by rw [ix2_1, Nat.mod_eq_of_lt (lt2 i)])
    rw [View.read_apply, ← hy]
    exact View.read_write_of_mem (v := (slab v inb).reshape ⟨2, ![R, C]⟩ hr) f w (Finset.mem_univ _)
  · next h =>
    rw [View.read_apply, View.read_apply]
    exact congrArg _ (View.write_of_not_mem (v := (slab v inb).reshape ⟨2, ![R, C]⟩ hr) f w _
      (by rw [View.setOn_univ, View.set_reshape]; exact slab_not_mem v inb h))

variable [NeZero A] [NeZero B]

omit [NeZero R] in
/-- The index of the buffer under the slab's `(r, c)`. -/
theorem slab_at (inb : ∀ x, (![a, b, 0] : Fin 3 → ℕ) x + (![1, R, C] : Fin 3 → ℕ) x ≤ (![A, B, C] : Fin 3 → ℕ) x) (r c : ℕ) (hr : r < R) (hc : c < C) :
    ((ix3 a (b + r) c : (⟨3, ![A, B, C]⟩ : Shape).Idx) 0).val = a ∧ ((ix3 a (b + r) c : (⟨3, ![A, B, C]⟩ : Shape).Idx) 1).val = b + r
      ∧ ((ix3 a (b + r) c : (⟨3, ![A, B, C]⟩ : Shape).Idx) 2).val = c := by
  have h0 : a + 1 ≤ A := inb 0
  have h1 : b + R ≤ B := inb 1
  exact ⟨Nat.mod_eq_of_lt (by omega), Nat.mod_eq_of_lt (by omega), Nat.mod_eq_of_lt hc⟩

/-- A read through the `1 × R × C` window. -/
theorem read_slab (f : v.ty.Contents Val) (y : (⟨3, ![1, R, C]⟩ : Shape).Idx) :
    (slab v inb).read Val f y = v.read Val f (ix3 a (b + (y 1).val) (y 2).val) := by
  obtain ⟨h0, h1, h2⟩ := slab_at (A := A) (B := B) inb (y 1).val (y 2).val (lt1 y) (lt2 y)
  rw [View.read_apply, slab_emb v inb y h0 h1 h2, View.read_apply]

/-- A read through the `R × C` matrix. -/
theorem read_slab_mat (hr : (⟨2, ![R, C]⟩ : Shape).numel = (⟨3, ![1, R, C]⟩ : Shape).numel) (f : v.ty.Contents Val) (y : (⟨2, ![R, C]⟩ : Shape).Idx) :
    ((slab v inb).reshape ⟨2, ![R, C]⟩ hr).read Val f y = v.read Val f (ix3 a (b + (y 0).val) (y 1).val) := by
  obtain ⟨h0, h1, h2⟩ := slab_at (A := A) (B := B) inb (y 0).val (y 1).val (y 0).isLt (y 1).isLt
  rw [View.read_apply, slab_mat_emb v inb hr y h0 h1 h2, View.read_apply]

end Slab

/-! ## The same of windows of a memref, as the kernel takes them -/

section Mem
variable {sig : RefSig} {κ : Kind} {sp : Space} {e : EltTy} {Val : EltTy → Type} {A B C R a b : ℕ} [NeZero R] [NeZero C]
variable (M : Memref sig κ sp ⟨3, ![A, B, C]⟩ e)
  (inb : ∀ x, (![a, b, 0] : Fin 3 → ℕ) x + (![1, R, C] : Fin 3 → ℕ) x ≤ (![A, B, C] : Fin 3 → ℕ) x)

/-- A write through a squeezed slab of a memref, at an index of its buffer. -/
theorem write_squeeze {hs} (sq : (⟨3, ![1, R, C]⟩ : Shape).Squeezes ⟨2, ![R, C]⟩) (f : M.view.ty.Contents Val)
    (w : (⟨2, ![R, C]⟩ : Shape).Idx → Val e) (i : (⟨3, ![A, B, C]⟩ : Shape).Idx) :
    M.view.read Val (View.write Val ((M.slice (Rect.unit (s := ⟨3, ![A, B, C]⟩) ![a, b, 0] ![1, R, C] inb) hs).squeeze ⟨2, ![R, C]⟩ sq).view f w Finset.univ) i
      = if (i 0).val = a ∧ b ≤ (i 1).val ∧ (i 1).val < b + R then w (ix2 ((i 1).val - b) (i 2).val) else M.view.read Val f i :=
  write_slab_mat M.view inb sq.numel_eq f w i

/-- A read through a squeezed slab of a memref. -/
theorem read_squeeze [NeZero A] [NeZero B] {hs} (sq : (⟨3, ![1, R, C]⟩ : Shape).Squeezes ⟨2, ![R, C]⟩) (f : M.view.ty.Contents Val)
    (y : (⟨2, ![R, C]⟩ : Shape).Idx) :
    ReadAs.same.apply (View.read Val ((M.slice (Rect.unit (s := ⟨3, ![A, B, C]⟩) ![a, b, 0] ![1, R, C] inb) hs).squeeze ⟨2, ![R, C]⟩ sq).view f) y
      = M.view.read Val f (ix3 a (b + (y 0).val) (y 1).val) :=
  read_slab_mat M.view inb sq.numel_eq f y

/-- A load of a slab. -/
theorem load_slab [NeZero A] [NeZero B] (f : M.view.ty.Contents Val) (y : (⟨3, ![1, R, C]⟩ : Shape).Idx) :
    View.readAt Val M.view (Rect.unit (s := ⟨3, ![A, B, C]⟩) ![a, b, 0] ![1, R, C] inb).toLoadRect f y
      = M.view.read Val f (ix3 a (b + (y 1).val) (y 2).val) :=
  read_slab M.view inb f y

/-- The newest of a list of stores of slabs, at an index of the buffer. -/
theorem stores_slab (f : M.view.ty.Contents Val) (w : (⟨3, ![1, R, C]⟩ : Shape).Idx → Val e) (L : List (View.Piece Val ⟨3, ![A, B, C]⟩ e))
    (i : (⟨3, ![A, B, C]⟩ : Shape).Idx) :
    M.view.read Val (M.view.writes Val f (⟨Rect.unit (s := ⟨3, ![A, B, C]⟩) ![a, b, 0] ![1, R, C] inb, w⟩ :: L)) i
      = if (i 0).val = a ∧ b ≤ (i 1).val ∧ (i 1).val < b + R then w (ix3 0 ((i 1).val - b) (i 2).val)
        else M.view.read Val (M.view.writes Val f L) i :=
  write_slab M.view inb (M.view.writes Val f L) w i

end Mem

end Cert.ConvProof
-- ==== Proof.Output.lean ====
/-
# What the kernel leaves in its output

Each device's 1024 rows are computed in eight pieces of 512: four of rows `512, …, 1023` (one per batch), whose inputs are
rows of the device's own block, and four of rows `0, …, 511`, the first three of whose inputs are the halo. Here are the
element of the output in closed form (`outC`), and that a piece computed from an input buffer holding the right rows is a
piece of it.
-/
module

public import proofs.«01_k».proof.Proof.Exchange
public import proofs.«01_k».proof.Proof.Windows
public import Idealize.ShloMosaic.Lib.Pointwise.ElementwiseCore

@[expose] public section

noncomputable section

namespace Cert.ConvProof

open Cert.KernelIdeal Cert.KernelIdeal.Gen
open Idealize.ShloMosaic Idealize.ShloMosaic.TcCoe

variable {F : FTy → Type} [FloatOps F]

variable (m : (ℓ : Loc nD τ sig) → Buf (Elt F) ℓ) (c : Dev nD)

/-! ## The closed form -/

/-- The float one half. -/
def half : F .f32 := Scalar.ofBits .f32 0x3F000000#32

/-- The four-tap sum. -/
def taps (x0 x1 x2 x3 k0 k1 k2 k3 : F .f32) : F .f32 :=
  FloatOps.addf (FloatOps.addf (FloatOps.addf (FloatOps.mulf x0 k0) (FloatOps.mulf x1 k1)) (FloatOps.mulf x2 k2)) (FloatOps.mulf x3 k3)

/-- The gate, as the kernel computes it. -/
def gate (v : F .f32) : F .f32 := FloatOps.mulf v (FloatOps.addf (FloatOps.mulf half (FloatOps.tanh (FloatOps.mulf half v))) half)

/-- Row `s` of the device's block preceded by the three halo rows: `s = 0, 1, 2` are the halo, `s = 3, …` the block. -/
def xrow (b s col : ℕ) : F .f32 :=
  if s < 3 then haloOf m c (ix3 b (5 + s) col) else (xin m c : Vec F S4x1024x512 .f32) (ix3 b (s - 3) col)

/-- The output's element at `(b, s, col)`. -/
def outAt (fk : Vec F S4x512 .f32) (b s col : ℕ) : F .f32 :=
  gate (taps (xrow m c b s col) (xrow m c b (s + 1) col) (xrow m c b (s + 2) col) (xrow m c b (s + 3) col)
    (fk (ix2 0 col)) (fk (ix2 1 col)) (fk (ix2 2 col)) (fk (ix2 3 col)))

/-- The output. -/
def outC (fk : Vec F S4x512 .f32) : Vec F S4x1024x512 .f32 := fun i => outAt m c fk (i 0).val (i 1).val (i 2).val

/-! ## One piece -/

/-- The taps' rows of the staged filter, each as loaded. -/
abbrev krow0 (fk : Vec F S4x512 .f32) : Vec F S1x512 .f32 := View.readAt (Elt F) kM.view (Rect.unit (s := S4x512) ![0, 0] S1x512.size inb_S4x512_S1x512_0_0).toLoadRect fk
abbrev krow1 (fk : Vec F S4x512 .f32) : Vec F S1x512 .f32 := View.readAt (Elt F) kM.view (Rect.unit (s := S4x512) ![1, 0] S1x512.size inb_S4x512_S1x512_1_0).toLoadRect fk
abbrev krow2 (fk : Vec F S4x512 .f32) : Vec F S1x512 .f32 := View.readAt (Elt F) kM.view (Rect.unit (s := S4x512) ![2, 0] S1x512.size inb_S4x512_S1x512_2_0).toLoadRect fk
abbrev krow3 (fk : Vec F S4x512 .f32) : Vec F S1x512 .f32 := View.readAt (Elt F) kM.view (Rect.unit (s := S4x512) ![3, 0] S1x512.size inb_S4x512_S1x512_3_0).toLoadRect fk

/-- A piece of the output from the piece `v` of the input. -/
abbrev chunk (v : Vec F S1x520x512 .f32) (fk : Vec F S4x512 .f32) : Vec F S1x512x512 .f32 :=
  k0_pay12 (k0_pay11 v (krow0 fk) (krow1 fk) (krow2 fk) (krow3 fk))

theorem load_row {t : ℕ} (ht : t < 4) {inb} (fk : Vec F S4x512 .f32) (y : S1x512.Idx) :
    View.readAt (Elt F) kM.view (Rect.unit (s := S4x512) ![t, 0] S1x512.size inb).toLoadRect fk y = fk (ix2 t (y 1).val) := by
  show fk ((Rect.unit (s := S4x512) ![t, 0] S1x512.size inb).toLoadRect.idx y) = _
  refine congrArg fk (ext2 ?_ ?_)
  · have := (y 0).isLt; change (y 0).val < 1 at this
    rw [ix2_0, Nat.mod_eq_of_lt ht]; show t + 1 * (y 0).val = t; omega
  · rw [ix2_1, Nat.mod_eq_of_lt (show (y 1).val < 512 from (y 1).isLt)]; show 0 + 1 * (y 1).val = _; omega

/-- A filter row, cast and spread over the piece, at an index. -/
theorem spread_row (k : FVec F S1x512 .f32) (i : S512x512.Idx) :
    broadcastTo S512x512 (shapeCast S1x512 (shapeCast S512 k shapeCasts_S1x512_S512) shapeCasts_S512_S1x512) broadcasts_S1x512_S512x512 i
      = k (ix2 0 (i 1).val) := by
  rw [shapeCast_shapeCast]
  refine broadcastTo_apply _ _ _ _ fun a => ?_
  match a with
  | ⟨0, _⟩ => rfl
  | ⟨1, _⟩ => exact Nat.mod_eq_of_lt (show (i 1).val < 512 from (i 1).isLt)

/-- Rows `o, …, o + 511` of a piece of the input, at an index. -/
theorem rows_apply (v : Vec F S1x520x512 .f32) {o : ℕ} (h : S520x512.Slices ![o, 0] S512x512) (ho : o ≤ 8) (i : S512x512.Idx) :
    extractStridedSlice S512x512 ![o, 0] (shapeCast S520x512 v shapeCasts_S1x520x512_S520x512) h i = v (ix3 0 (o + (i 0).val) (i 1).val) := by
  have h0 : (i 0).val < 512 := (i 0).isLt
  have h1 : (i 1).val < 512 := (i 1).isLt
  rw [extractStridedSlice_apply (k := ix2 (o + (i 0).val) (i 1).val) (hk := fun a => by
    match a with
    | ⟨0, _⟩ => exact Nat.mod_eq_of_lt (show o + (i 0).val < 520 by omega)
    | ⟨1, _⟩ => exact (Nat.mod_eq_of_lt h1).trans (Nat.zero_add _).symm)]
  rw [shapeCast_dropUnit_apply]
  exact congrArg v (ext3 rfl rfl rfl)

theorem pay11_apply (v : Vec F S1x520x512 .f32) (fk : Vec F S4x512 .f32) (i : S512x512.Idx) :
    k0_pay11 v (krow0 fk) (krow1 fk) (krow2 fk) (krow3 fk) i
      = gate (taps (v (ix3 0 (5 + (i 0).val) (i 1).val)) (v (ix3 0 (6 + (i 0).val) (i 1).val)) (v (ix3 0 (7 + (i 0).val) (i 1).val))
        (v (ix3 0 (8 + (i 0).val) (i 1).val)) (fk (ix2 0 (i 1).val)) (fk (ix2 1 (i 1).val)) (fk (ix2 2 (i 1).val)) (fk (ix2 3 (i 1).val))) := by
  unfold k0_pay11
  dsimp only
  have h2 : (i 1).val % 512 = (i 1).val := Nat.mod_eq_of_lt (show (i 1).val < 512 from (i 1).isLt)
  simp only [mulf_apply, addf_apply, tanh_apply]
  rw [spread_row (krow0 fk), spread_row (krow1 fk), spread_row (krow2 fk), spread_row (krow3 fk)]
  rw [rows_apply _ _ (by decide), rows_apply _ _ (by decide), rows_apply _ _ (by decide), rows_apply _ _ (by decide)]
  have e {t : ℕ} {inb} (ht : t < 4) :
      View.readAt (Elt F) kM.view (Rect.unit (s := S4x512) ![t, 0] S1x512.size inb).toLoadRect fk (ix2 0 (i 1).val) = fk (ix2 t (i 1).val) :=
    (load_row ht fk _).trans (congrArg (fun n => fk (ix2 t n)) h2)
  rw [show krow0 fk (ix2 0 (i 1).val) = _ from e (by decide), show krow1 fk (ix2 0 (i 1).val) = _ from e (by decide),
    show krow2 fk (ix2 0 (i 1).val) = _ from e (by decide), show krow3 fk (ix2 0 (i 1).val) = _ from e (by decide)]
  rfl

/-- An element of a piece of the output. -/
theorem chunk_apply (v : Vec F S1x520x512 .f32) (fk : Vec F S4x512 .f32) (y : S1x512x512.Idx) :
    chunk v fk y = gate (taps (v (ix3 0 (5 + (y 1).val) (y 2).val)) (v (ix3 0 (6 + (y 1).val) (y 2).val)) (v (ix3 0 (7 + (y 1).val) (y 2).val))
      (v (ix3 0 (8 + (y 1).val) (y 2).val)) (fk (ix2 0 (y 2).val)) (fk (ix2 1 (y 2).val)) (fk (ix2 2 (y 2).val)) (fk (ix2 3 (y 2).val))) := by
  unfold chunk k0_pay12
  dsimp only
  rw [shapeCast_addUnit_apply]
  exact pay11_apply v fk (fun a => y a.succ)

/-- A piece computed from the rows `s, …, s + 514` of batch `b` is rows `s, …, s + 511` of the output. -/
theorem chunk_rows {v : Vec F S1x520x512 .f32} {fk : Vec F S4x512 .f32} {b s : ℕ}
    (hv : ∀ q col, q < 515 → col < 512 → v (ix3 0 (5 + q) col) = xrow m c b (s + q) col) (y : S1x512x512.Idx) :
    chunk v fk y = outAt m c fk b (s + (y 1).val) (y 2).val := by
  have h1 : (y 1).val < 512 := lt1 y
  have h2 : (y 2).val < 512 := lt2 y
  have e (t : ℕ) (ht : t < 4) := hv ((y 1).val + t) (y 2).val (by omega) h2
  rw [chunk_apply]
  unfold outAt
  rw [show 6 + (y 1).val = 5 + ((y 1).val + 1) by omega, show 7 + (y 1).val = 5 + ((y 1).val + 2) by omega, show 8 + (y 1).val = 5 + ((y 1).val + 3) by omega,
    e 1 (by decide), e 2 (by decide), e 3 (by decide), show 5 + (y 1).val = 5 + ((y 1).val + 0) by omega, e 0 (by decide)]
  rfl

/-! ## The input buffer -/

/-- The input buffer once the eight input copies have landed: pieces 0–3 hold the last 520 rows of each batch, pieces 4–7 hold
    the first 512 rows of each batch from their row 8 on. -/
def filled (fb : Vec F S8x520x512 .f32) : Vec F S8x520x512 .f32 :=
  View.write (Elt F) ((bM.slice (Rect.unit (s := S8x520x512) ![7, 8, 0] S1x512x512.size inb_S8x520x512_S1x512x512_7_8_0) (fun _ => rfl)).squeeze S512x512 squeezes_S1x512x512_S512x512).view
    (View.write (Elt F) ((bM.slice (Rect.unit (s := S8x520x512) ![6, 8, 0] S1x512x512.size inb_S8x520x512_S1x512x512_6_8_0) (fun _ => rfl)).squeeze S512x512 squeezes_S1x512x512_S512x512).view
    (View.write (Elt F) ((bM.slice (Rect.unit (s := S8x520x512) ![5, 8, 0] S1x512x512.size inb_S8x520x512_S1x512x512_5_8_0) (fun _ => rfl)).squeeze S512x512 squeezes_S1x512x512_S512x512).view
    (View.write (Elt F) ((bM.slice (Rect.unit (s := S8x520x512) ![4, 8, 0] S1x512x512.size inb_S8x520x512_S1x512x512_4_8_0) (fun _ => rfl)).squeeze S512x512 squeezes_S1x512x512_S512x512).view
    (View.write (Elt F) ((bM.slice (Rect.unit (s := S8x520x512) ![3, 0, 0] S1x520x512.size inb_S8x520x512_S1x520x512_3_0_0) (fun _ => rfl)).squeeze S520x512 squeezes_S1x520x512_S520x512).view
    (View.write (Elt F) ((bM.slice (Rect.unit (s := S8x520x512) ![2, 0, 0] S1x520x512.size inb_S8x520x512_S1x520x512_2_0_0) (fun _ => rfl)).squeeze S520x512 squeezes_S1x520x512_S520x512).view
    (View.write (Elt F) ((bM.slice (Rect.unit (s := S8x520x512) ![1, 0, 0] S1x520x512.size inb_S8x520x512_S1x520x512_1_0_0) (fun _ => rfl)).squeeze S520x512 squeezes_S1x520x512_S520x512).view
    (View.write (Elt F) ((bM.slice (Rect.unit (s := S8x520x512) ![0, 0, 0] S1x520x512.size inb_S8x520x512_S1x520x512_0_0_0) (fun _ => rfl)).squeeze S520x512 squeezes_S1x520x512_S520x512).view
    fb
    (ReadAs.same.apply (View.read (Elt F) ((xM.slice (Rect.unit (s := S4x1024x512) ![0, 504, 0] S1x520x512.size inb_S4x1024x512_S1x520x512_0_504_0) (fun _ => rfl)).squeeze S520x512 squeezes_S1x520x512_S520x512).view (xin m c))) Finset.univ)
    (ReadAs.same.apply (View.read (Elt F) ((xM.slice (Rect.unit (s := S4x1024x512) ![1, 504, 0] S1x520x512.size inb_S4x1024x512_S1x520x512_1_504_0) (fun _ => rfl)).squeeze S520x512 squeezes_S1x520x512_S520x512).view (xin m c))) Finset.univ)
    (ReadAs.same.apply (View.read (Elt F) ((xM.slice (Rect.unit (s := S4x1024x512) ![2, 504, 0] S1x520x512.size inb_S4x1024x512_S1x520x512_2_504_0) (fun _ => rfl)).squeeze S520x512 squeezes_S1x520x512_S520x512).view (xin m c))) Finset.univ)
    (ReadAs.same.apply (View.read (Elt F) ((xM.slice (Rect.unit (s := S4x1024x512) ![3, 504, 0] S1x520x512.size inb_S4x1024x512_S1x520x512_3_504_0) (fun _ => rfl)).squeeze S520x512 squeezes_S1x520x512_S520x512).view (xin m c))) Finset.univ)
    (ReadAs.same.apply (View.read (Elt F) ((xM.slice (Rect.unit (s := S4x1024x512) ![0, 0, 0] S1x512x512.size inb_S4x1024x512_S1x512x512_0_0_0) (fun _ => rfl)).squeeze S512x512 squeezes_S1x512x512_S512x512).view (xin m c))) Finset.univ)
    (ReadAs.same.apply (View.read (Elt F) ((xM.slice (Rect.unit (s := S4x1024x512) ![1, 0, 0] S1x512x512.size inb_S4x1024x512_S1x512x512_1_0_0) (fun _ => rfl)).squeeze S512x512 squeezes_S1x512x512_S512x512).view (xin m c))) Finset.univ)
    (ReadAs.same.apply (View.read (Elt F) ((xM.slice (Rect.unit (s := S4x1024x512) ![2, 0, 0] S1x512x512.size inb_S4x1024x512_S1x512x512_2_0_0) (fun _ => rfl)).squeeze S512x512 squeezes_S1x512x512_S512x512).view (xin m c))) Finset.univ)
    (ReadAs.same.apply (View.read (Elt F) ((xM.slice (Rect.unit (s := S4x1024x512) ![3, 0, 0] S1x512x512.size inb_S4x1024x512_S1x512x512_3_0_0) (fun _ => rfl)).squeeze S512x512 squeezes_S1x512x512_S512x512).view (xin m c))) Finset.univ

/-- An element of a copied-in piece. -/
theorem landed_apply {a b R : ℕ} [NeZero R] {inb : ∀ x, (![a, b, 0] : Fin 3 → ℕ) x + (![1, R, 512] : Fin 3 → ℕ) x ≤ S4x1024x512.size x} {hs}
    (sq : (⟨3, ![1, R, 512]⟩ : Shape).Squeezes ⟨2, ![R, 512]⟩) {r col : ℕ} (hr : r < R) (hc : col < 512) :
    ReadAs.same.apply (View.read (Elt F) ((xM.slice (Rect.unit (s := S4x1024x512) ![a, b, 0] ![1, R, 512] inb) hs).squeeze ⟨2, ![R, 512]⟩ sq).view (xin m c)) (ix2 r col)
      = (xin m c : Vec F S4x1024x512 .f32) (ix3 a (b + r) col) := by
  refine (read_squeeze xM inb sq (xin m c) (ix2 r col)).trans ?_
  rw [ix2_0, ix2_1, Nat.mod_eq_of_lt hr, Nat.mod_eq_of_lt hc]
  rfl

section
variable (fb : Vec F S8x520x512 .f32) {g q col : ℕ}

theorem at0 (hg : g < 8) : ((ix3 g q col : S8x520x512.Idx) 0).val = g := Nat.mod_eq_of_lt hg
theorem at1 (hq : q < 520) : ((ix3 g q col : S8x520x512.Idx) 1).val = q := Nat.mod_eq_of_lt hq
theorem at2 (hc : col < 512) : ((ix3 g q col : S8x520x512.Idx) 2).val = col := Nat.mod_eq_of_lt hc

/-- Pieces 0–3 hold the last 520 rows of each batch; -/
theorem filled_last (hg : g < 4) (hq : q < 520) (hc : col < 512) :
    bM.view.read (Elt F) (filled m c fb) (ix3 g q col) = (xin m c : Vec F S4x1024x512 .f32) (ix3 g (504 + q) col) := by
  unfold filled
  rw [write_squeeze, write_squeeze, write_squeeze, write_squeeze, write_squeeze, write_squeeze, write_squeeze, write_squeeze, at0 (by omega), at1 hq, at2 hc]
  split_ifs <;> first | (exfalso; omega) | (rename_i h; rw [landed_apply m c _ (by omega) hc, h.1]; rfl)

/-- pieces 4–7 hold, from their row 8 on, the first 512 rows of each batch. -/
theorem filled_first (hg : g < 4) (hq : q < 520) (h8 : 8 ≤ q) (hc : col < 512) :
    bM.view.read (Elt F) (filled m c fb) (ix3 (4 + g) q col) = (xin m c : Vec F S4x1024x512 .f32) (ix3 g (q - 8) col) := by
  unfold filled
  rw [write_squeeze, write_squeeze, write_squeeze, write_squeeze, write_squeeze, write_squeeze, write_squeeze, write_squeeze, at0 (by omega), at1 hq, at2 hc]
  split_ifs <;> first
    | (exfalso; omega)
    | (rename_i h; rw [landed_apply m c _ (by omega) hc, Nat.zero_add]; exact congrArg (fun n => (xin m c : Vec F S4x1024x512 .f32) (ix3 n (q - 8) col)) (by omega))

/-- A store into rows 5, 6, 7 of a piece leaves the rows from 8 on. -/
theorem stores_skip {a p : ℕ} {inb : ∀ x, (![a, 5, 0] : Fin 3 → ℕ) x + S1x3x512.size x ≤ S8x520x512.size x} {w : S1x3x512.Idx → F .f32}
    {L : List (View.Piece (Elt F) S8x520x512 .f32)} (hq : q < 520) (h8 : 8 ≤ q) :
    bM.view.read (Elt F) (bM.view.writes (Elt F) (filled m c fb) (⟨Rect.unit (s := S8x520x512) ![a, 5, 0] S1x3x512.size inb, w⟩ :: L)) (ix3 p q col)
      = bM.view.read (Elt F) (bM.view.writes (Elt F) (filled m c fb) L) (ix3 p q col) := by
  refine (stores_slab (R := 3) bM inb _ _ _ _).trans (if_neg ?_)
  rw [at1 hq]; omega

/-- A piece 4–7 after its halo rows are stored: from row 5 on it holds the halo's last three rows and the first rows of the batch. -/
theorem stores_top {inb : ∀ x, (![4 + g, 5, 0] : Fin 3 → ℕ) x + S1x3x512.size x ≤ S8x520x512.size x} {w : S1x3x512.Idx → F .f32}
    {L : List (View.Piece (Elt F) S8x520x512 .f32)} (hg : g < 4)
    (hw : ∀ r col, r < 3 → col < 512 → w (ix3 0 r col) = haloOf m c (ix3 g (5 + r) col))
    (hL : ∀ q col, q < 520 → 8 ≤ q → col < 512 → bM.view.read (Elt F) (bM.view.writes (Elt F) (filled m c fb) L) (ix3 (4 + g) q col)
      = (xin m c : Vec F S4x1024x512 .f32) (ix3 g (q - 8) col))
    (hq : q < 520) (h5 : 5 ≤ q) (hc : col < 512) :
    bM.view.read (Elt F) (bM.view.writes (Elt F) (filled m c fb) (⟨Rect.unit (s := S8x520x512) ![4 + g, 5, 0] S1x3x512.size inb, w⟩ :: L)) (ix3 (4 + g) q col)
      = xrow m c g (q - 5) col := by
  unfold xrow
  refine (stores_slab (R := 3) bM inb _ _ _ _).trans ?_
  rw [at0 (by omega), at1 hq, at2 hc]
  by_cases h : q - 5 < 3
  · rw [if_pos h, if_pos (by omega)]; exact hw _ _ h hc
  · rw [if_neg h, if_neg (by omega), hL q col hq (by omega) hc, show q - 8 = q - 5 - 3 by omega]

end

/-- The halo's last three rows, loaded and cast for the store. -/
theorem halo_rows {g : ℕ} (hg : g < 4) {inb : ∀ x, (![g, 5, 0] : Fin 3 → ℕ) x + S1x3x512.size x ≤ S4x8x512.size x} (r col : ℕ) (hr : r < 3) (hc : col < 512) :
    k0_pay14 (View.readAt (Elt F) hM.view (Rect.unit (s := S4x8x512) ![g, 5, 0] S1x3x512.size inb).toLoadRect (haloOf m c)) (ix3 0 r col)
      = haloOf m c (ix3 g (5 + r) col) := by
  unfold k0_pay14
  dsimp only
  rw [shapeCast_shapeCast]
  refine (load_slab (R := 3) hM inb (haloOf m c) _).trans ?_
  rw [ix3_1, ix3_2, Nat.mod_eq_of_lt hr, Nat.mod_eq_of_lt hc]
  rfl

/-- What the computation of piece `g` of the last rows loads; -/
theorem rows_last (fb : Vec F S8x520x512 .f32) {g : ℕ} (hg : g < 4) {inb : ∀ x, (![g, 0, 0] : Fin 3 → ℕ) x + S1x520x512.size x ≤ S8x520x512.size x}
    (q col : ℕ) (hq : q < 515) (hc : col < 512) :
    View.readAt (Elt F) bM.view (Rect.unit (s := S8x520x512) ![g, 0, 0] S1x520x512.size inb).toLoadRect (filled m c fb) (ix3 0 (5 + q) col)
      = xrow m c g (512 + q) col := by
  refine (load_slab (R := 520) bM inb (filled m c fb) _).trans ?_
  rw [ix3_1, ix3_2, Nat.mod_eq_of_lt (show 5 + q < 520 by omega), Nat.mod_eq_of_lt hc, Nat.zero_add, filled_last m c fb hg (by omega) hc]
  unfold xrow
  rw [if_neg (by omega), show 504 + (5 + q) = 512 + q - 3 by omega]

/-- what that of piece `g` of the first rows loads. -/
theorem rows_first (fb : Vec F S8x520x512 .f32) {g : ℕ} (hg : g < 4)
    {inb : ∀ x, (![4 + g, 0, 0] : Fin 3 → ℕ) x + S1x520x512.size x ≤ S8x520x512.size x}
    {inb' : ∀ x, (![4 + g, 5, 0] : Fin 3 → ℕ) x + S1x3x512.size x ≤ S8x520x512.size x}
    {inb'' : ∀ x, (![g, 5, 0] : Fin 3 → ℕ) x + S1x3x512.size x ≤ S4x8x512.size x}
    {L : List (View.Piece (Elt F) S8x520x512 .f32)}
    (hL : ∀ q col, q < 520 → 8 ≤ q → col < 512 → bM.view.read (Elt F) (bM.view.writes (Elt F) (filled m c fb) L) (ix3 (4 + g) q col)
      = (xin m c : Vec F S4x1024x512 .f32) (ix3 g (q - 8) col))
    (q col : ℕ) (hq : q < 515) (hc : col < 512) :
    View.readAt (Elt F) bM.view (Rect.unit (s := S8x520x512) ![4 + g, 0, 0] S1x520x512.size inb).toLoadRect
        (bM.view.writes (Elt F) (filled m c fb) (⟨Rect.unit (s := S8x520x512) ![4 + g, 5, 0] S1x3x512.size inb',
          k0_pay14 (View.readAt (Elt F) hM.view (Rect.unit (s := S4x8x512) ![g, 5, 0] S1x3x512.size inb'').toLoadRect (haloOf m c))⟩ :: L)) (ix3 0 (5 + q) col)
      = xrow m c g (0 + q) col := by
  refine (load_slab (R := 520) bM inb _ _).trans ?_
  rw [ix3_1, ix3_2, Nat.mod_eq_of_lt (show 5 + q < 520 by omega), Nat.mod_eq_of_lt hc, Nat.zero_add,
    stores_top m c fb hg (halo_rows m c hg) hL (by omega) (by omega) hc, show 5 + q - 5 = 0 + q by omega]

/-- The rows below the halo rows are those copied in, before any halo rows are stored. -/
theorem below_nil {fb : Vec F S8x520x512 .f32} {g : ℕ} (hg : g < 4) :
    ∀ q col, q < 520 → 8 ≤ q → col < 512 → bM.view.read (Elt F) (bM.view.writes (Elt F) (filled m c fb) []) (ix3 (4 + g) q col)
      = (xin m c : Vec F S4x1024x512 .f32) (ix3 g (q - 8) col) :=
  fun q col hq h8 hc => filled_first m c fb hg hq h8 hc

/-- A store into the halo rows leaves the rows below as they were. -/
theorem below_cons {fb : Vec F S8x520x512 .f32} {g a : ℕ} {inb : ∀ x, (![a, 5, 0] : Fin 3 → ℕ) x + S1x3x512.size x ≤ S8x520x512.size x}
    {w : S1x3x512.Idx → F .f32} {L : List (View.Piece (Elt F) S8x520x512 .f32)}
    (hL : ∀ q col, q < 520 → 8 ≤ q → col < 512 → bM.view.read (Elt F) (bM.view.writes (Elt F) (filled m c fb) L) (ix3 (4 + g) q col)
      = (xin m c : Vec F S4x1024x512 .f32) (ix3 g (q - 8) col)) :
    ∀ q col, q < 520 → 8 ≤ q → col < 512 →
      bM.view.read (Elt F) (bM.view.writes (Elt F) (filled m c fb) (⟨Rect.unit (s := S8x520x512) ![a, 5, 0] S1x3x512.size inb, w⟩ :: L)) (ix3 (4 + g) q col)
        = (xin m c : Vec F S4x1024x512 .f32) (ix3 g (q - 8) col) :=
  fun q col hq h8 hc => (stores_skip m c fb hq h8).trans (hL q col hq h8 hc)

/-! ## The output buffer's pieces and the output -/

/-- A piece read back from the output buffer, newest store first, is rows `s, …` of batch `b` of the output. -/
theorem piece_apply {v : Vec F S1x520x512 .f32} {fk : Vec F S4x512 .f32} {b s j : ℕ}
    (hv : ∀ q col, q < 515 → col < 512 → v (ix3 0 (5 + q) col) = xrow m c b (s + q) col)
    {inb : ∀ x, (![j, 0, 0] : Fin 3 → ℕ) x + S1x512x512.size x ≤ S8x512x512.size x} {hs} (fob : Vec F S8x512x512 .f32)
    {L : List (View.Piece (Elt F) S8x512x512 .f32)} (y : S512x512.Idx) :
    ReadAs.same.apply (View.read (Elt F) ((obM.slice (Rect.unit (s := S8x512x512) ![j, 0, 0] S1x512x512.size inb) hs).squeeze S512x512 squeezes_S1x512x512_S512x512).view
        (obM.view.writes (Elt F) fob (⟨Rect.unit (s := S8x512x512) ![j, 0, 0] S1x512x512.size inb, chunk v fk⟩ :: L))) y
      = outAt m c fk b (s + (y 0).val) (y 1).val := by
  have h0 : (y 0).val < 512 := (y 0).isLt
  have h1 : (y 1).val < 512 := (y 1).isLt
  have hj : j + 1 ≤ 8 := inb 0
  refine (read_squeeze (R := 512) obM inb squeezes_S1x512x512_S512x512 _ y).trans ((stores_slab (R := 512) obM inb _ _ _ _).trans ?_)
  rw [ix3_0, ix3_1, ix3_2, Nat.zero_add, Nat.mod_eq_of_lt (show j < 8 by omega), Nat.mod_eq_of_lt h0, Nat.mod_eq_of_lt h1, if_pos ⟨rfl, by omega, by omega⟩,
    chunk_rows m c hv, ix3_1, ix3_2, Nat.sub_zero, Nat.mod_eq_of_lt h0, Nat.mod_eq_of_lt h1]

/-- The eight copies out, each of its piece of the output, leave the output. -/
theorem out_of {fk : Vec F S4x512 .f32} {fo : Vec F S4x1024x512 .f32} {w0 w1 w2 w3 w4 w5 w6 w7 : S512x512.Idx → F .f32} {h0} {h1} {h2} {h3} {h4} {h5} {h6} {h7}
    (e0 : ∀ y : S512x512.Idx, w0 y = outAt m c fk 0 (512 + (y 0).val) (y 1).val)
    (e1 : ∀ y : S512x512.Idx, w1 y = outAt m c fk 1 (512 + (y 0).val) (y 1).val)
    (e2 : ∀ y : S512x512.Idx, w2 y = outAt m c fk 2 (512 + (y 0).val) (y 1).val)
    (e3 : ∀ y : S512x512.Idx, w3 y = outAt m c fk 3 (512 + (y 0).val) (y 1).val)
    (e4 : ∀ y : S512x512.Idx, w4 y = outAt m c fk 0 (0 + (y 0).val) (y 1).val)
    (e5 : ∀ y : S512x512.Idx, w5 y = outAt m c fk 1 (0 + (y 0).val) (y 1).val)
    (e6 : ∀ y : S512x512.Idx, w6 y = outAt m c fk 2 (0 + (y 0).val) (y 1).val)
    (e7 : ∀ y : S512x512.Idx, w7 y = outAt m c fk 3 (0 + (y 0).val) (y 1).val) :
    View.write (Elt F) ((oM.slice (Rect.unit (s := S4x1024x512) ![3, 0, 0] S1x512x512.size inb_S4x1024x512_S1x512x512_3_0_0) h7).squeeze S512x512 squeezes_S1x512x512_S512x512).view
      (View.write (Elt F) ((oM.slice (Rect.unit (s := S4x1024x512) ![2, 0, 0] S1x512x512.size inb_S4x1024x512_S1x512x512_2_0_0) h6).squeeze S512x512 squeezes_S1x512x512_S512x512).view
      (View.write (Elt F) ((oM.slice (Rect.unit (s := S4x1024x512) ![1, 0, 0] S1x512x512.size inb_S4x1024x512_S1x512x512_1_0_0) h5).squeeze S512x512 squeezes_S1x512x512_S512x512).view
      (View.write (Elt F) ((oM.slice (Rect.unit (s := S4x1024x512) ![0, 0, 0] S1x512x512.size inb_S4x1024x512_S1x512x512_0_0_0) h4).squeeze S512x512 squeezes_S1x512x512_S512x512).view
      (View.write (Elt F) ((oM.slice (Rect.unit (s := S4x1024x512) ![3, 512, 0] S1x512x512.size inb_S4x1024x512_S1x512x512_3_512_0) h3).squeeze S512x512 squeezes_S1x512x512_S512x512).view
      (View.write (Elt F) ((oM.slice (Rect.unit (s := S4x1024x512) ![2, 512, 0] S1x512x512.size inb_S4x1024x512_S1x512x512_2_512_0) h2).squeeze S512x512 squeezes_S1x512x512_S512x512).view
      (View.write (Elt F) ((oM.slice (Rect.unit (s := S4x1024x512) ![1, 512, 0] S1x512x512.size inb_S4x1024x512_S1x512x512_1_512_0) h1).squeeze S512x512 squeezes_S1x512x512_S512x512).view
      (View.write (Elt F) ((oM.slice (Rect.unit (s := S4x1024x512) ![0, 512, 0] S1x512x512.size inb_S4x1024x512_S1x512x512_0_512_0) h0).squeeze S512x512 squeezes_S1x512x512_S512x512).view
      fo w0 Finset.univ) w1 Finset.univ) w2 Finset.univ) w3 Finset.univ) w4 Finset.univ) w5 Finset.univ) w6 Finset.univ) w7 Finset.univ = outC m c fk := by
  funext i
  have h0 : (i 0).val < 4 := (i 0).isLt
  have h1 : (i 1).val < 1024 := (i 1).isLt
  have h2 : (i 2).val < 512 := (i 2).isLt
  have hr (f : Vec F S4x1024x512 .f32) : f i = oM.view.read (Elt F) f i := rfl
  refine (hr _).trans ?_
  rw [write_squeeze, write_squeeze, write_squeeze, write_squeeze, write_squeeze, write_squeeze, write_squeeze, write_squeeze]
  have key {b s : ℕ} {w : S512x512.Idx → F .f32} (e : ∀ y : S512x512.Idx, w y = outAt m c fk b (s + (y 0).val) (y 1).val)
      (h : (i 0).val = b ∧ s ≤ (i 1).val ∧ (i 1).val < s + 512) : w (ix2 ((i 1).val - s) (i 2).val) = outC m c fk i := by
    rw [e, ix2_0, ix2_1, Nat.mod_eq_of_lt (show (i 1).val - s < 512 by omega), Nat.mod_eq_of_lt h2, show s + ((i 1).val - s) = (i 1).val by omega, ← h.1]
    rfl
  split_ifs with i7 i6 i5 i4 i3 i2 i1 i0
  · exact key e7 i7
  · exact key e6 i6
  · exact key e5 i5
  · exact key e4 i4
  · exact key e3 i3
  · exact key e2 i2
  · exact key e1 i1
  · exact key e0 i0
  · exfalso; omega

end Cert.ConvProof

end
-- ==== Proof.Body.lean ====
/-
# The run of the kernel body

One symbolic run of the body serves every device: the conditional steps are taken by the lemmas of `Exchange`, and at the end
the output holds `outC`. Then the pipeline library's form of it: what the launch hands the body, and what the body hands
back.
-/
module

public import proofs.«01_k».proof.Proof.Exchange
public import proofs.«01_k».proof.Proof.Output

@[expose] public section

noncomputable section

namespace Cert.ConvProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The run -/

/-- A share of device `c`'s block of the input, one for each copy that reads it, by the number of the copy's semaphore. -/
abbrev xTok (c : Dev nD) (i : Fin 20) : sProp 𝕄 :=
  xM.view.loc (c : Thread nD τ) ↦[Finset.univ]{Transfers.shareTok fullShare 20 i} xin m c
/-- A semaphore of the device's own copies, at zero. -/
abbrev sv (c : Dev nD) (i : Fin 20) : sProp 𝕄 := semVal ((c : Thread nD τ), SemLoc.dma i) 0

/-- The shares the body's nine reading copies take. -/
def xToks (c : Dev nD) : sProp 𝕄 :=
  iprop(xTok m c 1 ∗ xTok m c 2 ∗ xTok m c 3 ∗ xTok m c 4 ∗ xTok m c 5 ∗ xTok m c 6 ∗ xTok m c 7 ∗ xTok m c 8 ∗ xTok m c 17)

/-- The semaphores of the device's own copies, all at zero. -/
def svs (c : Dev nD) : sProp 𝕄 :=
  iprop(sv c 1 ∗ sv c 2 ∗ sv c 3 ∗ sv c 4 ∗ sv c 5 ∗ sv c 6 ∗ sv c 7 ∗ sv c 8 ∗ sv c 9 ∗ sv c 10 ∗ sv c 11 ∗ sv c 12 ∗ sv c 13 ∗ sv c 14
    ∗ sv c 15 ∗ sv c 16 ∗ sv c 17)

/-- What the body starts from, the staged filter holding `fk`. -/
def runPre (K : Dev nD × Fin 3 → ℕ) (c : Dev nD) (fk : Vec F S4x512 .f32) (W : Waits sig Unit) : sProp 𝕄 :=
  iprop((∃ f, pts c bM f) ∗ (∃ f, pts c obM f) ∗ (∃ f, pts c oM f) ∗ (∃ f, pts c sM f) ∗ pts c kM fk ∗ St0 m K c ∗ xToks m c ∗ svs c
    ∗ Transfers.MayWaits (c : Thread nD τ) () (O₁ c) ∗ owes (c : Thread nD τ) (O₀ c) W)

/-- What it ends with: the output in closed form, everything else back, every semaphore at zero, nothing owed. -/
def runPost (c : Dev nD) (fk : Vec F S4x512 .f32) : sProp 𝕄 :=
  iprop((∃ f, pts c bM f) ∗ (∃ f, pts c obM f) ∗ pts c oM (outC m c fk) ∗ (∃ f, pts c sM f) ∗ pts c kM fk ∗ (∃ f, pts c hM f) ∗ xToks m c ∗ svs c
    ∗ (semVal (barCell c) 0 ∗ semVal (sendCell c) 0 ∗ semVal (recvCell c) 0) ∗ ∃ W, owes (c : Thread nD τ) 0 W)

set_option maxHeartbeats 16000000 in
set_option sl_exec.dmaWindow true in
/-- The body takes the one to the other. -/
theorem run_body (K : Dev nD × Fin 3 → ℕ) (c : Dev nD) (fk : Vec F S4x512 .f32) (W : Waits sig Unit) (Kt : PUnit → sProp 𝕄) :
    iprop(runPre m K c fk W ∗ (runPost m c fk -∗ Kt ⟨⟩))
      ⊢ wp frame (wpE (defs₀ (F := F)) 𝒱₀ c none) Set.univ
          (cc0_body (F := F) xM (Memref.isWhole_whole _) kM (Memref.isWhole_whole _) oM (Memref.isWhole_whole _) bM (Memref.isWhole_whole _)
            obM (Memref.isWhole_whole _) hM (Memref.isWhole_whole _) sM (Memref.isWhole_whole _) cc0_scratch4 cc0_scratch5 cc0_scratch6 cc0_scratch7 cc0_scratch8) Kt := by
  rw [cc0_body_eq_skeleton]; unfold cc0_body_skel
  rw [k0_part17_eq_skeleton]; unfold k0_part17_skel
  rw [k0_part16_eq_skeleton]; unfold k0_part16_skel
  rw [k0_part15_eq_skeleton]; unfold k0_part15_skel
  rw [k0_part14_eq_skeleton]; unfold k0_part14_skel
  rw [k0_part13_eq_skeleton]; unfold k0_part13_skel
  rw [k0_part12_eq_skeleton]; unfold k0_part12_skel
  rw [k0_part11_eq_skeleton]; unfold k0_part11_skel
  rw [k0_part10_eq_skeleton]; unfold k0_part10_skel
  rw [k0_part9_eq_skeleton]; unfold k0_part9_skel
  rw [k0_part8_eq_skeleton]; unfold k0_part8_skel
  rw [k0_part7_eq_skeleton]; unfold k0_part7_skel
  rw [k0_part6_eq_skeleton]; unfold k0_part6_skel
  rw [k0_part5_eq_skeleton]; unfold k0_part5_skel
  rw [k0_part4_eq_skeleton]; unfold k0_part4_skel
  rw [k0_part3_eq_skeleton]; unfold k0_part3_skel
  rw [k0_part2_eq_skeleton]; unfold k0_part2_skel
  rw [k0_part1_eq_skeleton]; unfold k0_part1_skel
  unfold runPre xToks svs
  iintro ⟨⟨⟨%fb, HB⟩, ⟨%fob, HOB⟩, ⟨%fo, HO⟩, ⟨%fs, HS⟩, HK, HP, ⟨X1, X2, X3, X4, X5, X6, X7, X8, X17⟩,
    ⟨S1, S2, S3, S4, S5, S6, S7, S8, S9, S10, S11, S12, S13, S14, S15, S16, S17⟩, #HMW, Ho⟩, Hk⟩
  sl_exec
  iapply (step_raise m K c (cond1_iff c) (dev1_eq c)) $$ [HP Ho]
  · isplitl [HP] <;> iassumption
  iintro ⟨HP, Ho⟩; delta wpc; beta_reduce
  sl_exec
  iapply (step_send m K c (cond2_iff c) (dev2_eq c)) $$ [HP HS Ho]
  · isplitl [HP]; · iexact HP
    isplitl [HS]
    · unfold sendPts; rw [show View.write (Elt F) sM.view fs (run_body.sl.dma0 m c) Finset.univ = xtail m c from View.write_whole_univ ..]; iexact HS
    iexact Ho
  iintro ⟨HP, %W1, Ho⟩; delta wpc; beta_reduce
  sl_exec
  iapply (step_halo m K c ((by decide : ∀ c : Dev nD, (run_body.sl.v275 c = 1#1 ↔ HasPrev c)) c)) $$ [HP Ho]
  · isplitl [HP] <;> iassumption
  iintro ⟨HP, %W2, Ho⟩; delta wpc; beta_reduce
  sl_exec
  iapply (step_clear m K c ((by decide : ∀ c : Dev nD, (run_body.sl.v278 c = 1#1 ↔ ¬HasPrev c)) c)) $$ HP
  iintro ⟨HP, HH⟩; delta wpc; beta_reduce
  sl_exec
  iapply (step_done m K c ((by decide : ∀ c : Dev nD, (run_body.sl.v557 c = 1#1 ↔ HasNext c)) c)) $$ [HP Ho]
  · isplitl [HP] <;> iassumption
  iintro ⟨HzB, HzS, HzR, HS, %W3, Ho⟩; delta wpc; beta_reduce
  sl_exec
  have e0 : ∀ y : S512x512.Idx, run_body.sl.dma7 m c fk fb fob y = outAt m c fk 0 (512 + (y 0).val) (y 1).val :=
    fun y => piece_apply m c (v := run_body.sl.v71 m c fb) (fk := fk) (j := 0) (L := []) (rows_last m c fb (g := 0) (by decide)) fob y
  have e1 : ∀ y : S512x512.Idx, run_body.sl.dma14 m c fk fb fob y = outAt m c fk 1 (512 + (y 0).val) (y 1).val :=
    fun y => piece_apply m c (v := run_body.sl.v123 m c fb) (fk := fk) (j := 1) (L := run_body.sl.HOB_1 m c fk fb) (rows_last m c fb (g := 1) (by decide)) fob y
  have e2 : ∀ y : S512x512.Idx, run_body.sl.dma21 m c fk fb fob y = outAt m c fk 2 (512 + (y 0).val) (y 1).val :=
    fun y => piece_apply m c (v := run_body.sl.v175 m c fb) (fk := fk) (j := 2) (L := run_body.sl.HOB_2 m c fk fb) (rows_last m c fb (g := 2) (by decide)) fob y
  have e3 : ∀ y : S512x512.Idx, run_body.sl.dma28 m c fk fb fob y = outAt m c fk 3 (512 + (y 0).val) (y 1).val :=
    fun y => piece_apply m c (v := run_body.sl.v227 m c fb) (fk := fk) (j := 3) (L := run_body.sl.HOB_3 m c fk fb) (rows_last m c fb (g := 3) (by decide)) fob y
  have e4 : ∀ y : S512x512.Idx, run_body.sl.dma10 m c fk fb fob y = outAt m c fk 0 (0 + (y 0).val) (y 1).val :=
    fun y => piece_apply m c (v := run_body.sl.v290 m c fb) (fk := fk) (j := 4) (L := run_body.sl.HOB_4 m c fk fb) (rows_first m c fb (g := 0) (by decide) (below_nil m c (by decide))) fob y
  have e5 : ∀ y : S512x512.Idx, run_body.sl.dma20 m c fk fb fob y = outAt m c fk 1 (0 + (y 0).val) (y 1).val :=
    fun y => piece_apply m c (v := run_body.sl.v347 m c fb) (fk := fk) (j := 5) (L := run_body.sl.HOB_5 m c fk fb) (rows_first m c fb (g := 1) (by decide) (below_cons m c (below_nil m c (by decide)))) fob y
  have e6 : ∀ y : S512x512.Idx, run_body.sl.dma30 m c fk fb fob y = outAt m c fk 2 (0 + (y 0).val) (y 1).val :=
    fun y => piece_apply m c (v := run_body.sl.v404 m c fb) (fk := fk) (j := 6) (L := run_body.sl.HOB_6 m c fk fb) (rows_first m c fb (g := 2) (by decide) (below_cons m c (below_cons m c (below_nil m c (by decide))))) fob y
  have e7 : ∀ y : S512x512.Idx, run_body.sl.dma40 m c fk fb fob y = outAt m c fk 3 (0 + (y 0).val) (y 1).val :=
    fun y => piece_apply m c (v := run_body.sl.v461 m c fb) (fk := fk) (j := 7) (L := run_body.sl.HOB_7 m c fk fb) (rows_first m c fb (g := 3) (by decide) (below_cons m c (below_cons m c (below_cons m c (below_nil m c (by decide)))))) fob y
  ihave HO := (Entails.of_eq (congrArg (fun f => (pts c oM f : sProp 𝕄)) (out_of m c e0 e1 e2 e3 e4 e5 e6 e7))) $$ HO
  rw [wp_ret]; imodintro
  iapply Hk
  unfold runPost xToks svs sendPts
  isplitl [HB]; · iexists _; iexact HB
  isplitl [HOB]; · iexists _; iexact HOB
  isplitl [HO]; · iexact HO
  isplitl [HS]; · iexists _; iexact HS
  isplitl [HK]; · iexact HK
  isplitl [HH]; · iexists _; iexact HH
  isplitl [X1 X2 X3 X4 X5 X6 X7 X8 X17]
  · iframe
  isplitl [S1 S2 S3 S4 S5 S6 S7 S8 S9 S10 S11 S12 S13 S14 S15 S16 S17]
  · isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    iexact S17
  isplitl [HzB HzS HzR]
  · iframe
  iexists _; iexact Ho

end Cert.ConvProof

end
-- ==== Proof.Launch.lean ====
/-
# The launch

What every device starts the kernel with is put together here from what the launch deals: the exchange's cells are
allocated for all sixteen devices at once, their tokens are dealt around the ring, the launch's credits are those the
neighbours' debts come to. Then the pipeline library's launch theorem gives the run of the whole program.
-/
module

public import proofs.«01_k».proof.Proof.Body
public import Idealize.ShloMosaic.Lib.Pipeline.CollectiveSegs

@[expose] public section

noncomputable section

namespace Cert.ConvProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body starts from and ends with -/

/-- The filter, as launched. -/
def kin (c : Dev nD) : Vec F S4x512 .f32 := (win0_0.blk (0 : Fin 1)).view.read (Elt F) (m ((c : Thread nD τ).loc main_arg1))

/-- The whole filter is staged: the block read is the array. -/
theorem kin_eq (c : Dev nD) : kin m c = m ((c : Thread nD τ).loc main_arg1) := by
  unfold kin
  exact Memref.readAt_unit_zero (Elt F) main_arg1 (funext fun a => by fin_cases a <;> rfl) _ _

/-- The invariants and marks of device `c`'s protocol, at the names `K`, the levels aside. -/
def cells (K : Dev nD × Fin 3 → ℕ) (c : Dev nD) : sProp 𝕄 :=
  iprop(cellInv ER (ringRd m) (K (c, 0)) (barCell c) ∗ cellInv ER (ringRd m) (K (c, 1)) (sendCell c) ∗ cellInv ER (ringRd m) (K (c, 2)) (recvCell c)
    ∗ cellInv ER (ringRd m) (K (prv c, 0)) (barCell (prv c)) ∗ cellInv ER (ringRd m) (K (nxt c, 2)) (recvCell (nxt c))
    ∗ reached ER (barCell (prv c)) 0 ∗ reached ER (recvCell (nxt c)) 0 ∗ reached ER (sendCell c) 0 ∗ reached ER (recvCell c) 0)

/-- The tokens of the duties device `c` pays: the raise of the barrier before, the landing behind, its own send. -/
def payToks (c : Dev nD) : sProp 𝕄 :=
  iprop(dutyTok ER (barCell (prv c)) 0 () ∗ dutyTok ER (recvCell (nxt c)) 0 () ∗ dutyTok ER (sendCell c) 0 ())

/-- What stays with device `c` alone: its positions, its tokens, the semaphores of its own copies. -/
def linear (c : Dev nD) : sProp 𝕄 :=
  iprop((atPos ER (barCell c) 0 ∅ 0 ∗ atPos ER (sendCell c) 0 ∅ 0 ∗ atPos ER (recvCell c) 0 ∅ 0) ∗ payToks c ∗ svs c)

/-- The credits for what the neighbours owe device `c`. -/
def credits (c : Dev nD) : sProp 𝕄 :=
  iprop(cred (tallyAt (barCell c) () (if HasNext c then 1 else 0)) ∗ cred (tallyAt (recvCell c) () (if HasPrev c then N else 0)))

/-- What device `c` starts from, its scratch buffers aside. -/
def start (c : Dev nD) : sProp 𝕄 :=
  iprop((∃ K, cells m K c ∗ linear c) ∗ credits c ∗ levAts L lv ∗ pts c xM (xin m c) ∗ ∃ f, pts c oM f)

/-- The device's scratch buffers, whatever they hold. -/
def scratch (c : Dev nD) : sProp 𝕄 := iprop((∃ f, pts c bM f) ∗ (∃ f, pts c obM f) ∗ (∃ f, pts c hM f) ∗ (∃ f, pts c sM f))

/-- Before the body. -/
def Φ₀ (c : Dev nD) : sProp 𝕄 := iprop(start m c ∗ scratch c)
/-- After it: the input as it was, the output in closed form, every semaphore at zero. -/
def Φ₁ (c : Dev nD) : sProp 𝕄 :=
  iprop((pts c xM (xin m c) ∗ pts c oM (outC m c (kin m c))) ∗ scratch c ∗ svs c ∗ semVal (barCell c) 0 ∗ semVal (sendCell c) 0 ∗ semVal (recvCell c) 0)

/-- The pipeline's proof data: one point, the filter its one staged array. -/
def dats (_ : Fin 1) (c : Dev nD) : Dat τ (Elt F) Unit ℕ UU ℕ cfg0 c where
  A w := m ((cfg0.win w).arr.view.loc (c : Thread nD τ))
  after w _ := match w with
    | ⟨0, _⟩ => kin m c
    | ⟨_ + 1, h⟩ => absurd h (Nat.not_lt.2 (Nat.le_add_left _ _))
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The shares of the input -/

/-- The shares of the input no copy of the body takes. -/
def xRest (c : Dev nD) : sProp 𝕄 :=
  iprop((xM.view.loc (c : Thread nD τ) ↦[Finset.univ]{Transfers.shareDrop fullShare 20} xin m c) ∗ xTok m c 0 ∗ xTok m c 9 ∗ xTok m c 10 ∗ xTok m c 11
    ∗ xTok m c 12 ∗ xTok m c 13 ∗ xTok m c 14 ∗ xTok m c 15 ∗ xTok m c 16 ∗ xTok m c 18 ∗ xTok m c 19)

omit [FloatOps F] in
theorem bigSep_fin20 (Φ : Fin 20 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ

/-- The input is the shares of the copies and the rest; -/
theorem x_split (c : Dev nD) : pts c xM (xin m c) ⊢ iprop(xRest m c ∗ xToks m c) := by
  refine (Transfers.pointsTo_toks_split fullShare 20).trans ?_
  rw [bigSep_fin20]; unfold xRest xToks
  iintro ⟨D, A0, A1, A2, A3, A4, A5, A6, A7, A8, A9, A10, A11, A12, A13, A14, A15, A16, A17, A18, A19⟩
  iframe

/-- and they make it whole again. -/
theorem x_join (c : Dev nD) : iprop(xRest m c ∗ xToks m c) ⊢ pts c xM (xin m c) := by
  refine BIBase.Entails.trans ?_ (Transfers.pointsTo_toks_join fullShare 20)
  rw [bigSep_fin20]; unfold xRest xToks
  iintro ⟨⟨D, A0, A9, A10, A11, A12, A13, A14, A15, A16, A18, A19⟩, A1, A2, A3, A4, A5, A6, A7, A8, A17⟩
  isplitl [D]; · iexact D
  iframe

/-! ## The body obligation -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The staging buffer of the filter at contents `X`. -/
abbrev staged (c : Dev nD) (X : Vec F S4x512 .f32) : sProp 𝕄 := iprop(∃ f : Vec F S4x512 .f32, ⌜f = X⌝ ∗ pts c kM f)

def bodyPre (c : Dev nD) : sProp 𝕄 :=
  iprop(Φ₀ m c ∗ (dats m 0 c).owesAt () t0_0.castSucc ∗ (∃ d, staged c ((dats m 0 c).before (0 : Fin 1) t0_0 d)))
def bodyPost (c : Dev nD) : sProp 𝕄 := iprop(Φ₁ m c ∗ (dats m 0 c).owesAt () t0_0.succ ∗ staged c (kin m c))

theorem before_eq (c : Dev nD) (d) : (dats m 0 c).before (0 : Fin 1) t0_0 d = kin m c := by
  unfold Dat.before; rw [if_pos (show (cfg0.win (0 : Fin 1)).fetch t0_0 = true from rfl)]; rfl

/-- The body in the pipeline's form, from the run. -/
theorem body_triple (c : Dev nD) : bodyPre m c ⊢ wp frame (wpE (defs₀ (F := F)) 𝒱₀ c none) Set.univ
    (cc0_body (F := F) xM (Memref.isWhole_whole _) kM (Memref.isWhole_whole _) oM (Memref.isWhole_whole _) bM (Memref.isWhole_whole _)
      obM (Memref.isWhole_whole _) hM (Memref.isWhole_whole _) sM (Memref.isWhole_whole _) cc0_scratch4 cc0_scratch5 cc0_scratch6 cc0_scratch7 cc0_scratch8)
    (fun _ => bodyPost m c) := by
  unfold bodyPre Φ₀ start scratch cells linear payToks credits Dat.owesAt Pipeline.owesWithin
  rw [show (dats m 0 c).owed t0_0.castSucc = O₀ c from rfl]
  iintro ⟨⟨⟨⟨%K, ⟨I0, I1, I2, I3, I4, R1, R2, R3, R4⟩, ⟨P1, P2, P3⟩, ⟨T1, T2, T3⟩, HV⟩, ⟨C1, C2⟩, #Hlev, HX, HO⟩, HB, HOB, HH, HS⟩,
    ⟨%W, %hW, Ho⟩, ⟨%d, %g, %hg, HK⟩⟩
  rw [before_eq] at hg
  subst hg
  ihave HX := (x_split m c) $$ HX
  icases HX with ⟨HR, HX⟩
  iapply (run_body m K c (kin m c) W fun _ => bodyPost m c)
  isplitr [HR]
  · unfold runPre St0 invs
    isplitl [HB]; · iexact HB
    isplitl [HOB]; · iexact HOB
    isplitl [HO]; · iexact HO
    isplitl [HS]; · iexact HS
    isplitl [HK]; · iexact HK
    isplitl [I0 I1 I2 I3 I4 R1 R2 R3 R4 P1 P2 P3 T1 T2 T3 C1 C2 HH]
    · isplitl [I0 I1 I2 I3 I4 R1 R2 R3 R4]
      · isplitl [I0]; · iexact I0
        isplitl [I1]; · iexact I1
        isplitl [I2]; · iexact I2
        isplitl [I3]; · iexact I3
        isplitl [I4]; · iexact I4
        isplitl [R1]; · iexact R1
        isplitl [R2]; · iexact R2
        isplitl [R3]; · iexact R3
        isplitl [R4]; · iexact R4
        iexact Hlev
      isplitl [P1]; · iexact P1
      isplitl [P2]; · iexact P2
      isplitl [P3]; · iexact P3
      isplitl [T1]; · iexact T1
      isplitl [T2]; · iexact T2
      isplitl [T3]; · iexact T3
      isplitl [C1]; · iexact C1
      isplitl [C2]; · iexact C2
      unfold haloAny haloPts; iexact HH
    isplitl [HX]; · iexact HX
    isplitl [HV]; · iexact HV
    isplitr; · iapply (mayWaits_O₁ c); iexact Hlev
    iexact Ho
  · unfold runPost
    iintro ⟨HB, HOB, HO, HS, HK, HH, HX, HV, Hz, %W', Ho⟩
    unfold bodyPost Φ₁ scratch Dat.owesAt Pipeline.owesWithin
    rw [show (dats m 0 c).owed t0_0.succ = 0 from rfl]
    isplitr [Ho HK]
    · isplitl [HR HX HO]
      · isplitr [HO]
        · iapply (x_join m c); isplitl [HR] <;> iassumption
        iexact HO
      isplitl [HB HOB HH HS]
      · isplitl [HB]; · iexact HB
        isplitl [HOB]; · iexact HOB
        isplitl [HH] <;> iassumption
      isplitl [HV]; · iexact HV
      iexact Hz
    isplitl [Ho]
    · iexists W'
      isplitr; · ipureintro; exact fun _ _ => Or.inl trivial
      iexact Ho
    iexists _; isplitr; · (ipureintro; rfl)
    iexact HK

set_option maxRecDepth 4000 in
/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ c none) Set.univ
    (cc0_body (F := F) xM (Memref.isWhole_whole _) kM (Memref.isWhole_whole _) oM (Memref.isWhole_whole _) bM (Memref.isWhole_whole _)
      obM (Memref.isWhole_whole _) hM (Memref.isWhole_whole _) sM (Memref.isWhole_whole _) cc0_scratch4 cc0_scratch5 cc0_scratch6 cc0_scratch7 cc0_scratch8)
    (fun _ => bodyPost m c)
  exact body_triple m c

/-! ## The cells allocated, the tokens dealt -/

/-- The kernel's own semaphores: the seventeen of its own copies, the send and the receive. -/
abbrev osem : Fin 19 → SemLoc sig := fun i => .dma i.succ

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := fun x y h =>
  Prod.ext (congrArg (fun g : GSem nD τ sig => g.1.1) h)
    ((by decide : Function.Injective (csem : Fin 3 → SemLoc sig)) (congrArg Prod.snd h))

/-- The cells of the exchange, and the token of each cell's one duty. -/
def ringCells : Finset (GSem nD τ sig) := Finset.univ.map ⟨kcell, kcell_injective⟩
abbrev tokOf (ck : Dev nD × Fin 3) : GSem nD τ sig × ℕ × Unit := (kcell ck, 0, ())
theorem tokOf_injective : Function.Injective (tokOf : Dev nD × Fin 3 → GSem nD τ sig × ℕ × Unit) :=
  fun _ _ h => kcell_injective (congrArg Prod.fst h)
def ringToks : Finset (GSem nD τ sig × ℕ × Unit) := Finset.univ.map ⟨tokOf, tokOf_injective⟩

/-- The launch element: the staging cells', the exchange's, nothing for the local copies. -/
def u₀ : UU := (initOf (Pipeline.cells cfgs cellOf_inj) (Pipeline.launchToks cfgs cellOf_inj), (initOf ringCells ringToks, 1))

/-- What the launch element deals device `c`: the round states, the positions and marks, and the tokens of its own cells. -/
def G (c : Dev nD) : sProp 𝕄 :=
  iprop((bigSep Finset.univ fun k : Fin 3 => roundState ER (ringRd m) (kcell (c, k)) 0)
    ∗ (bigSep Finset.univ fun k : Fin 3 => iprop(atPos ER (kcell (c, k)) 0 ∅ 0 ∗ reached ER (kcell (c, k)) 0))
    ∗ bigSep Finset.univ fun k : Fin 3 => dutyTok ER (kcell (c, k)) 0 ())

/-- What the step taken for all devices at once makes of it. -/
def G' (c : Dev nD) : sProp 𝕄 := iprop(∃ K, cells m K c ∗ linear c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 3 => Φ (kcell (c, k)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun k : Fin 3 => dutyTok ER (kcell (c, k)) 0 () := by
    unfold ringToks; rw [bigSep_map, bigSep_univ_prod]; rfl
  iintro H
  imod (Rounds.fund ER (ringRd m) ringCells ringToks) $$ H with ⟨Hst, Hr, Hat, Htok⟩
  imodintro
  ihave Hst := (Entails.of_eq (hX fun g => roundState ER (ringRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitr [Htok]
  · isplitl [Hat] <;> iassumption
  iexact Htok

omit [FloatOps F] in
/-- The kernel's own semaphores are those of its own copies, the send and the receive; -/
theorem ownSems0_eq (c : Dev nD) : (Pipeline.ownSems0 (Ix := Unit) (Name := ℕ) (U := UU) (Lvl := ℕ) (Val := Elt F) (τ := τ) osem c : sProp 𝕄)
    = iprop(sv c 1 ∗ sv c 2 ∗ sv c 3 ∗ sv c 4 ∗ sv c 5 ∗ sv c 6 ∗ sv c 7 ∗ sv c 8 ∗ sv c 9 ∗ sv c 10 ∗ sv c 11 ∗ sv c 12 ∗ sv c 13 ∗ sv c 14 ∗ sv c 15 ∗ sv c 16 ∗ sv c 17 ∗ semVal (sendCell c) 0 ∗ semVal (recvCell c) 0) := by
  rw [Pipeline.ownSems0_eq_of_list c osem [0, 1, 2, 3, 4, 5, 6, 7, 8, 9, 10, 11, 12, 13, 14, 15, 16, 17, 18] (by decide) (by decide)]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 3 => semVal (kcell (c, k)) 0) ∗ svs c) : sProp 𝕄) := by
  rw [ownSems0_eq, unscopedSems0_eq, bigSep_fin3]; unfold svs
  iintro ⟨⟨A1, A2, A3, A4, A5, A6, A7, A8, A9, A10, A11, A12, A13, A14, A15, A16, A17, A18, A19⟩, HB⟩
  isplitl [A18 A19 HB]
  · isplitl [HB]; · iexact HB
    isplitl [A18]; · iexact A18
    iexact A19
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    iexact A17

omit [FloatOps F] in
/-- One device's share of the allocation: its three cells' invariants, at some names. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0))
          ∗ (bigSep Finset.univ fun k => dutyTok ER (kcell (c, k)) 0 ()) ∗ svs c) := by
  unfold G
  iintro ⟨Hos, Hus, Hst, Hat, Htok⟩
  ihave Hv := (sems0_eq (F := F) c) $$ [Hos Hus]
  · isplitl [Hos] <;> iassumption
  icases Hv with ⟨Hv, Hsv⟩
  have hall : iprop((bigSep Finset.univ fun k : Fin 3 => semVal (kcell (c, k)) 0) ∗ bigSep Finset.univ fun k : Fin 3 => roundState ER (ringRd m) (kcell (c, k)) 0)
      ⊢ (|={Set.univ}=> bigSep Finset.univ fun k => iprop(∃ κ : ℕ, cellInv ER (ringRd m) κ (kcell (c, k))) : sProp 𝕄) := by
    rw [← bigSep_sep']
    exact (bigSep_mono fun k _ => (Rounds.body_intro ER (ringRd m) (kcell (c, k))).trans inv_alloc).trans (bigSep_fupd _ _)
  imod hall $$ [Hv Hst] with Hinv
  · isplitl [Hv] <;> iassumption
  imodintro
  iframe

/-- Every cell's invariant and that it is at round 0. -/
def records (K : Dev nD × Fin 3 → ℕ) : sProp 𝕄 :=
  iprop((bigSep Finset.univ fun ck : Dev nD × Fin 3 => cellInv ER (ringRd m) (K ck) (kcell ck))
    ∗ bigSep Finset.univ fun ck : Dev nD × Fin 3 => reached ER (kcell ck) 0)

instance records_persistent (K : Dev nD × Fin 3 → ℕ) : BI.Persistent (records m K) := by unfold records; infer_instance

omit [FloatOps F] in
theorem inv_at (K : Dev nD × Fin 3 → ℕ) (ck : Dev nD × Fin 3) : records m K ⊢ (cellInv ER (ringRd m) (K ck) (kcell ck) : sProp 𝕄) := by
  unfold records; exact (sep_elim_left).trans (bigSep_elim (Finset.mem_univ ck))
omit [FloatOps F] in
theorem mark_at (K : Dev nD × Fin 3 → ℕ) (ck : Dev nD × Fin 3) : records m K ⊢ (reached ER (kcell ck) 0 : sProp 𝕄) := by
  unfold records; exact (sep_elim_right).trans (bigSep_elim (Finset.mem_univ ck))

omit [FloatOps F] in
theorem ghost_intro (K : Dev nD × Fin 3 → ℕ) (c : Dev nD) : iprop(records m K ∗ linear c) ⊢ G' m c := by
  unfold G' cells
  iintro ⟨#H, Hl⟩
  iexists K
  isplitr [Hl]
  · isplitr; · iapply (inv_at m K (c, 0)); iexact H
    isplitr; · iapply (inv_at m K (c, 1)); iexact H
    isplitr; · iapply (inv_at m K (c, 2)); iexact H
    isplitr; · iapply (inv_at m K (prv c, 0)); iexact H
    isplitr; · iapply (inv_at m K (nxt c, 2)); iexact H
    isplitr; · iapply (mark_at m K (prv c, 0)); iexact H
    isplitr; · iapply (mark_at m K (nxt c, 2)); iexact H
    isplitr; · iapply (mark_at m K (c, 1)); iexact H
    iapply (mark_at m K (c, 2)); iexact H
  iexact Hl

omit [FloatOps F] in
/-- The tokens dealt around the ring: a barrier's to the device behind, which raises it; a receive cell's to the device
    before, whose copy lands there; a send cell's stays. -/
theorem toks_around : (bigSep Finset.univ fun c : Dev nD => bigSep Finset.univ fun k : Fin 3 => (dutyTok ER (kcell (c, k)) 0 () : sProp 𝕄))
    ⊢ bigSep Finset.univ fun c : Dev nD => payToks c := by
  unfold payToks
  simp only [bigSep_fin3]
  rw [bigSep_sep', bigSep_sep', bigSep_sep', bigSep_sep',
    bigSep_univ_equiv ring.symm (fun c : Dev nD => (dutyTok ER (kcell (c, 0)) 0 () : sProp 𝕄)),
    bigSep_univ_equiv ring (fun c : Dev nD => (dutyTok ER (kcell (c, 2)) 0 () : sProp 𝕄))]
  iintro ⟨H1, H2, H3⟩
  isplitl [H1]; · iexact H1
  isplitl [H3]; · iexact H3
  iexact H2

omit [FloatOps F] in
/-- A persistent fact serves every member of a family. -/
theorem bigSep_using {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']; exact bigSep_mono h

omit [FloatOps F] in
theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0))
          ∗ (bigSep Finset.univ fun k => dutyTok ER (kcell (c, k)) 0 ()) ∗ svs c) : sProp 𝕄)
      ⊢ bigSep Finset.univ (G' m) := by
  rw [bigSep_sep', bigSep_sep', bigSep_sep', ← bigSep_univ_prod (fun ck : Dev nD × Fin 3 => iprop(∃ κ : ℕ, cellInv ER (ringRd m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok, Hsv⟩
  ihave HK := (BI.bigSep_exists_pi Finset.univ (fun (ck : Dev nD × Fin 3) (κ : ℕ) => (cellInv ER (ringRd m) κ (kcell ck) : sProp 𝕄))) $$ HI
  icases HK with ⟨%K, #HI⟩
  ihave Htk := (toks_around (F := F)) $$ Htok
  iapply (bigSep_using (R := records m K) fun c _ => ghost_intro m K c)
  isplitr
  · unfold records; isplitl; · iexact HI
    iexact HR
  · have hl : iprop((bigSep Finset.univ fun c : Dev nD => bigSep Finset.univ fun k : Fin 3 => (atPos ER (kcell (c, k)) 0 ∅ 0 : sProp 𝕄))
        ∗ (bigSep Finset.univ fun c : Dev nD => payToks c) ∗ bigSep Finset.univ fun c : Dev nD => svs c)
        ⊢ bigSep Finset.univ fun c : Dev nD => (linear c : sProp 𝕄) := by
      unfold linear; simp only [bigSep_fin3, bigSep_sep']; iintro H; iexact H
    iapply hl
    isplitl [Hat]; · iexact Hat
    isplitl [Htk] <;> iassumption

omit [FloatOps F] in
/-- The step taken for all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_inj {a b : Dev nD} (h : barCell a = barCell b) : a = b := congrArg (fun g : GSem nD τ sig => g.1.1) h
theorem recv_inj {a b : Dev nD} (h : recvCell a = recvCell b) : a = b := congrArg (fun g : GSem nD τ sig => g.1.1) h

/-- What device `d` owes device `c`'s barrier: a unit if it stands right behind it. -/
theorem owed_bar (d c : Dev nD) : O₀ d (barCell c) () = if d = nxt c then (if HasNext c then 1 else 0) else 0 := by
  have h1 : O₁ d (barCell c) () = 0 := by
    unfold O₁; split
    · rw [tallyAt_ne_cell (fun h => recv_ne_bar (congrArg Prod.snd h).symm)]; rfl
    · rfl
  unfold O₀; rw [Pi.add_apply, Finsupp.add_apply, h1, Nat.zero_add]
  by_cases h : d = nxt c
  · subst h
    rw [if_pos rfl, prv_nxt]
    by_cases hn : HasNext c
    · rw [if_pos ((hasPrev_nxt_iff c).2 hn), if_pos hn, tallyAt_apply, if_pos ⟨rfl, rfl⟩]
    · rw [if_neg (fun h => hn ((hasPrev_nxt_iff c).1 h)), if_neg hn]; rfl
  · rw [if_neg h]; split
    · rw [tallyAt_apply, if_neg fun h' => h ((nxt_prv d).symm.trans (congrArg nxt (bar_inj h'.1).symm))]
    · rfl

/-- What device `d` owes device `c`'s receive cell: the copy, if it stands right before it. -/
theorem owed_recv (d c : Dev nD) : O₀ d (recvCell c) () = if d = prv c then (if HasPrev c then N else 0) else 0 := by
  have h1 : (if HasPrev d then tallyAt (barCell (prv d)) () 1 else 0 : CellTallies nD τ sig Unit) (recvCell c) () = 0 := by
    split
    · rw [tallyAt_ne_cell (fun h => recv_ne_bar (congrArg Prod.snd h))]; rfl
    · rfl
  unfold O₀; rw [Pi.add_apply, Finsupp.add_apply, h1, Nat.add_zero]; unfold O₁
  by_cases h : d = prv c
  · subst h
    rw [if_pos rfl, nxt_prv]
    by_cases hn : HasPrev c
    · rw [if_pos ((hasNext_prv_iff c).2 hn), if_pos hn, tallyAt_apply, if_pos ⟨rfl, rfl⟩]
    · rw [if_neg (fun h => hn ((hasNext_prv_iff c).1 h)), if_neg hn]; rfl
  · rw [if_neg h]; split
    · rw [tallyAt_apply, if_neg fun h' => h ((prv_nxt d).symm.trans (congrArg prv (recv_inj h'.1).symm))]
    · rfl

theorem launch_bar (c : Dev nD) : tallyOn (barCell c) (launchCredit (Pipeline.owing O₀) 0 (barCell c))
    = (tallyAt (barCell c) () (if HasNext c then 1 else 0) : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (nxt c), if_pos (Finset.mem_univ _)]

theorem launch_recv (c : Dev nD) : tallyOn (recvCell c) (launchCredit (Pipeline.owing O₀) 0 (recvCell c))
    = (tallyAt (recvCell c) () (if HasPrev c then N else 0) : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (prv c), if_pos (Finset.mem_univ _)]

omit [FloatOps F] in
theorem credits_intro (c : Dev nD) : (Pipeline.launchCred O₀ c : sProp 𝕄) ⊢ credits c := by
  unfold Pipeline.launchCred credits
  rw [bigSep_univ_at _ (SemLoc.reg barS), launch_bar, ← launch_recv]
  exact sep_mono_right (bigSep_elim (Finset.mem_erase.mpr ⟨recv_ne_bar, Finset.mem_univ _⟩))

/-! ## The launch theorem's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨HX, HO⟩, Hlev, Hcr, -, HG⟩
  ihave Hc := (credits_intro (F := F) c) $$ Hcr
  imodintro
  unfold start G'
  isplitl
  · isplitl [HG]; · iexact HG
    isplitl [Hc]; · iexact Hc
    isplitl [Hlev]; · iexact Hlev
    isplitl [HX]; · iexact HX
    iexists _; iexact HO
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What is read off at the end: the input, the output, the barrier semaphore. -/
def exits (c : Dev nD) : sProp 𝕄 := iprop(unscopedSems0 c ∗ pts c xM (xin m c) ∗ pts c oM (outC m c (kin m c)))

theorem phi1_exit (c : Dev nD) :
    (dats m 0 c).Φ (Fin.last cfg0.N) ⊢ iprop(exits m c ∗ Pipeline.ownSems0 osem c ∗ Pipeline.scopedRest cfg0.spec c) := by
  rw [show (dats m 0 c).Φ (Fin.last cfg0.N) = Φ₁ m c from rfl, scopedRest0_eq, ownSems0_eq]
  unfold Φ₁ exits scratch svs
  rw [unscopedSems0_eq]
  iintro ⟨⟨HX, HO⟩, Hs, ⟨A1, A2, A3, A4, A5, A6, A7, A8, A9, A10, A11, A12, A13, A14, A15, A16, A17⟩, HB, A18, A19⟩
  isplitl [HB HX HO]
  · isplitl [HB]; · iexact HB
    isplitl [HX] <;> iassumption
  isplitr [Hs]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    isplitl [A15]; · iexact A15
    isplitl [A16]; · iexact A16
    isplitl [A17]; · iexact A17
    isplitl [A18]; · iexact A18
    iexact A19
  iexact Hs

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What the run ends in: on every device the output in closed form, the arguments as launched. -/
def Done (r : PUnit × MemSt nD τ sig (Elt F)) : Prop :=
  ∀ c : Dev nD, r.2.mem ((c : Thread nD τ).loc main_v1) = outC m c (m ((c : Thread nD τ).loc main_arg1))
    ∧ r.2.mem ((c : Thread nD τ).loc main_arg0) = m ((c : Thread nD τ).loc main_arg0)
    ∧ r.2.mem ((c : Thread nD τ).loc main_arg1) = m ((c : Thread nD τ).loc main_arg1)

/-- The same of the buffers that are read off one by one, and the unscoped semaphores at zero. -/
def Seen (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_v1) = outC m c (kin m c)

theorem exits_read (c : Dev nD) (s' : Phys nD τ sig (Elt F)) :
    iprop(exits m c ∗ iprop(emp) ∗ SI s') ⊢ |={Set.univ}=> (iprop(⌜Seen m c s'.mem⌝ ∗ SI s') : sProp 𝕄) := by
  unfold exits
  iintro ⟨⟨Hu, HX, HO⟩, -, HSI⟩
  icombine HSI HX gives %hx
  icombine HSI HO gives %ho
  imod (Pipeline.unscopedSems0_read (X := unscopedSems0 c) (c := c) fupd_intro s') $$ [Hu HSI] with ⟨%hu, HSI⟩
  · isplitl [Hu] <;> iassumption
  imodintro
  isplitr; · ipureintro; exact ⟨hu, Buf.eq_of_forall_mem_univ hx, Buf.eq_of_forall_mem_univ ho⟩
  iexact HSI

set_option maxRecDepth 8000 in
/-- For any float values, from any memory with every semaphore counter at zero: every weakly fair execution of the
    program on its sixteen devices terminates, and every final state has each device's output in closed form, the
    arguments unchanged and every semaphore counter at zero. -/
theorem run_main : θ_run defs (onTc (τ := τ) (main (F := F))) ⟨m, fun _ => 0, ρ⟩ (fun r => Done m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      have hf := fund_ring (F := F) m
      unfold ER at hf
      unfold u₀
      iintro Hu
      ihave H := (ownU_pair _ _) $$ Hu
      icases H with ⟨HP, HX⟩
      ihave HX := (own_pair_emb embR _ _) $$ HX
      icases HX with ⟨HX, -⟩
      imod hf $$ HX with HG
      imodintro
      isplitl [HP] <;> iassumption)
    (hglob := glob m)
    (hA := fun _ _ => rfl) (hpf := fun _ k => k.elim0)
    (X := start m) (Y := exits m) (Z := fun _ => iprop(emp))
    (hX := start_intro m ρ) (hin := phi0_intro m) (hout := phi1_exit m)
    (QY := Seen m) (hY := exits_read m)
    (hQ := fun s h hs => ⟨fun c => ⟨(h c).2.2.2.2.trans (congrArg (outC m c) (kin_eq m c)), (h c).2.2.2.1,
        ((h c).1 (0 : Fin 1)).trans ((dats (F := F) m 0 c).arrAt_in (0 : Fin 1) rfl _)⟩,
      sem_eq_zero hs fun c => (h c).2.2.1⟩)

end Cert.ConvProof

end
-- ==== Proof.Gate.lean ====
/-
# The gate over the extended reals

The kernel gates a value `v` as `v · (½ · tanh (½ · v) + ½)`, the reference as `v / (1 + exp (−v))`. Over the extended
reals, with exact operations, the two are equal at every `v`, the infinities included.
-/
module

public import proofs.«01_k».proof.Proof.Output
public import Idealize.ShloMosaic.Lib.IdealHost
public import Mathlib.Analysis.SpecialFunctions.Trigonometric.DerivHyp

@[expose] public section

noncomputable section

namespace Cert.ConvProof

open Idealize.ShloMosaic

/-- The pattern of one half denotes one half. -/
theorem half_ideal : (half : Ideal .f32) = ((1 / 2 : ℝ) : EReal) := by
  show Ideal.ofBits .f32 0x3F000000#32 = _
  simp [Ideal.ofBits, Ideal.ieee, -EReal.coe_mul]; norm_num

/-- The pattern of zero denotes zero. -/
theorem zero_ideal : Ideal.ofBits .f32 0x00000000#32 = 0 := by simp [Ideal.ofBits, Ideal.ieee]

/-- On reals: half the hyperbolic tangent of the half, plus a half, is the logistic function. -/
theorem logistic_real (r : ℝ) : 1 / 2 * Real.tanh (1 / 2 * r) + 1 / 2 = (1 + Real.exp (-r))⁻¹ := by
  have e1 : Real.exp (-r) = Real.exp (-(1 / 2 * r)) * Real.exp (-(1 / 2 * r)) := by rw [← Real.exp_add]; congr 1; ring
  have e2 : Real.exp (1 / 2 * r) * Real.exp (-(1 / 2 * r)) = 1 := by rw [← Real.exp_add]; simp
  have hp := Real.exp_pos (1 / 2 * r)
  have hn := Real.exp_pos (-(1 / 2 * r))
  rw [Real.tanh_eq_sinh_div_cosh, Real.sinh_eq, Real.cosh_eq, e1]
  generalize Real.exp (1 / 2 * r) = a at *
  generalize Real.exp (-(1 / 2 * r)) = b at *
  have h1 : (a + b) ≠ 0 := by positivity
  have h2 : (1 + b * b) ≠ 0 := by positivity
  field_simp
  linear_combination (2 * b) * e2

/-- The two gates are one function. -/
theorem gate_ideal (v : EReal) : (gate (F := Ideal) v : EReal) = Ideal.div v (1 + Ideal.exp (-v)) := by
  show v * ((half : Ideal .f32) * Ideal.tanh ((half : Ideal .f32) * v) + (half : Ideal .f32)) = _
  rw [half_ideal]
  have hpos : (0 : ℝ) < 1 / 2 := by norm_num
  induction v with
  | bot =>
    rw [EReal.coe_mul_bot_of_pos hpos, EReal.neg_bot]
    have h : ((1 / 2 : ℝ) : EReal) * Ideal.tanh ⊥ + ((1 / 2 : ℝ) : EReal) = 0 := by
      show ((1 / 2 : ℝ) : EReal) * (-1) + ((1 / 2 : ℝ) : EReal) = 0
      rw [show (-1 : EReal) = ((-1 : ℝ) : EReal) by rw [EReal.coe_neg, EReal.coe_one], ← EReal.coe_mul, ← EReal.coe_add]
      norm_num
    rw [h, mul_zero]
    show (0 : EReal) = Ideal.div ⊥ (1 + ⊤)
    rw [show (1 : EReal) + ⊤ = ⊤ from EReal.add_top_of_ne_bot (by decide)]
    unfold Ideal.div
    rw [if_neg (by decide), EReal.inv_top, mul_zero]
  | top =>
    rw [EReal.coe_mul_top_of_pos hpos, EReal.neg_top]
    have h : ((1 / 2 : ℝ) : EReal) * Ideal.tanh ⊤ + ((1 / 2 : ℝ) : EReal) = 1 := by
      show ((1 / 2 : ℝ) : EReal) * 1 + ((1 / 2 : ℝ) : EReal) = 1
      rw [mul_one, ← EReal.coe_add]
      norm_num
    rw [h, mul_one]
    show (⊤ : EReal) = Ideal.div ⊤ (1 + 0)
    unfold Ideal.div
    rw [add_zero, if_neg one_ne_zero, inv_one, mul_one]
  | coe r =>
    have hne : (1 + Real.exp (-r)) ≠ 0 := by have := Real.exp_pos (-r); positivity
    rw [← EReal.coe_mul, ← EReal.coe_neg]
    show (r : EReal) * (((1 / 2 : ℝ) : EReal) * ((Real.tanh (1 / 2 * r) : ℝ) : EReal) + ((1 / 2 : ℝ) : EReal))
      = Ideal.div r (1 + ((Real.exp (-r) : ℝ) : EReal))
    rw [← EReal.coe_mul, ← EReal.coe_add, logistic_real, show (1 : EReal) = ((1 : ℝ) : EReal) by norm_cast, ← EReal.coe_add]
    unfold Ideal.div
    rw [if_neg (by exact_mod_cast hne), EReal.coe_inv]

end Cert.ConvProof

end
-- ==== Proof.Value.lean ====
/-
# The kernel's output is the reference's

The reference pads the whole array with three zero rows, and its result at `(b, t, col)` is the gate of the four-tap sum of
padded rows `t, …, t + 3`. A device's rows `s, s + 1, …` of its block with the halo before it are the padded rows
`1024 · c + s, …` of the whole array, so what the device leaves in its output is its block of the reference's result.
-/
module

public import proofs.«01_k».proof.Proof.Launch
public import proofs.«01_k».proof.Proof.Gate
public import proofs.«01_k».proof.Proof.Gen.ReferenceIdeal.Run
public import Idealize.ShloMosaic.Lib.Layout
public import Idealize.ShloMosaic.Lib.Pipeline.Value
public import Idealize.ShloMosaic.Lib.IdealHost

@[expose] public section

noncomputable section

namespace Cert.ConvProof

open Idealize.ShloMosaic Idealize.ShloMosaic.TcCoe
open Cert.ReferenceIdeal (S4x16384x512 S4x16387x512 S4x3x512 S1x1x512)

/-! ## The reference at an index -/

/-- Row `p` of the padded array. -/
def padRow (x : FVec Ideal S4x16384x512 .f32) (b p col : ℕ) : EReal := if p < 3 then 0 else x (ix3 b (p - 3) col)

/-- The reference's result at `(b, t, col)`. -/
def refAt (x : FVec Ideal S4x16384x512 .f32) (k : FVec Ideal ⟨2, ![4, 512]⟩ .f32) (b t col : ℕ) : EReal :=
  gate (F := Ideal) (taps (padRow x b t col) (padRow x b (t + 1) col) (padRow x b (t + 2) col) (padRow x b (t + 3) col)
    (k (ix2 0 col)) (k (ix2 1 col)) (k (ix2 2 col)) (k (ix2 3 col)))

/-- The padded array, at an index. -/
theorem pad_apply (x : FVec Ideal S4x16384x512 .f32) (z : FVec Ideal S4x3x512 .f32) (hz : ∀ i, z i = (0 : EReal))
    (h : Shape.Concatenates [S4x3x512, S4x16384x512] S4x16387x512 1) (j : S4x16387x512.Idx) :
    concatenate S4x16387x512 1 [⟨S4x3x512, z⟩, ⟨S4x16384x512, x⟩] h j = padRow x (j 0).val (j 1).val (j 2).val := by
  have h0 : (j 0).val < 4 := lt0 j
  have h1 : (j 1).val < 16387 := lt1 j
  have h2 : (j 2).val < 512 := lt2 j
  unfold padRow
  by_cases hp : (j 1).val < 3
  · rw [if_pos hp]
    refine (concatenate_pair_apply_left (t := S4x16387x512) (s₁ := S4x3x512) (s₂ := S4x16384x512) 1 z x h j rfl
      (ix3 (j 0).val (j 1).val (j 2).val) fun b => ?_).trans (hz _)
    match b with
    | ⟨0, _⟩ => exact Nat.mod_eq_of_lt h0
    | ⟨1, _⟩ => exact Nat.mod_eq_of_lt hp
    | ⟨2, _⟩ => exact Nat.mod_eq_of_lt h2
  · rw [if_neg hp]
    refine concatenate_pair_apply_right (t := S4x16387x512) (s₁ := S4x3x512) (s₂ := S4x16384x512) 1 z x h j rfl rfl
      (ix3 (j 0).val ((j 1).val - 3) (j 2).val) (fun b hb => ?_) ?_
    · match b with
      | ⟨0, _⟩ => exact Nat.mod_eq_of_lt h0
      | ⟨1, _⟩ => exact absurd rfl hb
      | ⟨2, _⟩ => exact Nat.mod_eq_of_lt h2
    · show ((j 1).val - 3) % 16384 + 3 = (j 1).val
      rw [Nat.mod_eq_of_lt (by omega)]; omega

/-- Rows `o, o + 1, …` of the padded array, at an index. -/
theorem pad_rows (x : FVec Ideal S4x16384x512 .f32) (z : FVec Ideal S4x3x512 .f32) (hz : ∀ i, z i = (0 : EReal))
    (h : Shape.Concatenates [S4x3x512, S4x16384x512] S4x16387x512 1) {o : ℕ} (ho : o ≤ 3)
    (hs : S4x16387x512.Slices ![0, o, 0] S4x16384x512) (i : S4x16384x512.Idx) :
    extractStridedSlice S4x16384x512 ![0, o, 0] (concatenate S4x16387x512 1 [⟨S4x3x512, z⟩, ⟨S4x16384x512, x⟩] h) hs i
      = padRow x (i 0).val ((i 1).val + o) (i 2).val := by
  have h0 : (i 0).val < 4 := lt0 i
  have h1 : (i 1).val < 16384 := lt1 i
  have h2 : (i 2).val < 512 := lt2 i
  rw [extractStridedSlice_apply (k := ix3 (i 0).val ((i 1).val + o) (i 2).val) (hk := fun a => by
    match a with
    | ⟨0, _⟩ => exact (Nat.mod_eq_of_lt h0).trans (Nat.zero_add _).symm
    | ⟨1, _⟩ => exact (Nat.mod_eq_of_lt (show (i 1).val + o < 16387 by omega)).trans (Nat.add_comm _ _)
    | ⟨2, _⟩ => exact (Nat.mod_eq_of_lt h2).trans (Nat.zero_add _).symm)]
  rw [pad_apply x z hz, ix3_0, ix3_1, ix3_2, Nat.mod_eq_of_lt h0, Nat.mod_eq_of_lt h2, Nat.mod_eq_of_lt (by omega)]

/-- The index of a row of 512 at a column. -/
def ix1 (n : ℕ) (h : n < 512) : (⟨1, ![512]⟩ : Shape).Idx
  | ⟨0, _⟩ => ⟨n, h⟩

/-- Row `t` of the filter, cast and spread over the whole array, at an index. -/
theorem spread_tap (k : FVec Ideal ⟨2, ![4, 512]⟩ .f32) {t : ℕ} (ht : t < 4)
    (hs : (⟨2, ![4, 512]⟩ : Shape).Slices ![t, 0] ⟨2, ![1, 512]⟩) (hc : (⟨2, ![1, 512]⟩ : Shape).ShapeCasts ⟨1, ![512]⟩)
    (hb : (⟨1, ![512]⟩ : Shape).BroadcastsInDim S1x1x512 ![2]) (hb' : S1x1x512.BroadcastsInDim S4x16384x512 ![0, 1, 2])
    (i : S4x16384x512.Idx) :
    broadcastInDim S4x16384x512 ![0, 1, 2] hb' (broadcastInDim S1x1x512 ![2] hb
        (shapeCast ⟨1, ![512]⟩ (extractStridedSlice ⟨2, ![1, 512]⟩ ![t, 0] k hs) hc)) i
      = k (ix2 t (i 2).val) := by
  have h2 : (i 2).val < 512 := lt2 i
  rw [broadcastInDim_apply (k := (ix3 0 0 (i 2).val : S1x1x512.Idx)) (hk := fun a => by
    match a with
    | ⟨0, _⟩ => rfl
    | ⟨1, _⟩ => rfl
    | ⟨2, _⟩ => exact Nat.mod_eq_of_lt h2)]
  rw [broadcastInDim_apply (k := ix1 (i 2).val h2) (hk := fun a => by
    match a with
    | ⟨0, _⟩ => exact (Nat.mod_eq_of_lt h2).symm)]
  rw [shapeCast_dropUnit_apply]
  rw [extractStridedSlice_apply (k := ix2 t (i 2).val) (hk := fun a => by
    match a with
    | ⟨0, _⟩ => exact Nat.mod_eq_of_lt ht
    | ⟨1, _⟩ => exact (Nat.mod_eq_of_lt h2).trans (Nat.zero_add _).symm)]

/-- Equal rows and equal taps give equal sums. -/
theorem taps_congr {p0 p1 p2 p3 k0 k1 k2 k3 q0 q1 q2 q3 l0 l1 l2 l3 : Ideal .f32} (h0 : p0 = q0) (h1 : p1 = q1) (h2 : p2 = q2) (h3 : p3 = q3)
    (g0 : k0 = l0) (g1 : k1 = l1) (g2 : k2 = l2) (g3 : k3 = l3) : taps p0 p1 p2 p3 k0 k1 k2 k3 = taps q0 q1 q2 q3 l0 l1 l2 l3 := by
  rw [h0, h1, h2, h3, g0, g1, g2, g3]

/-- The reference's result at an index. -/
theorem ref_apply (m' : (ℓ : Loc Cert.ReferenceIdeal.nD Cert.ReferenceIdeal.τ Cert.ReferenceIdeal.sig) → Buf (Elt Ideal) ℓ) (d : Dev Cert.ReferenceIdeal.nD)
    (i : S4x16384x512.Idx) :
    Cert.ReferenceIdeal.Value.res_main_v35 m' d i
      = refAt (m' ((d.tc : Thread Cert.ReferenceIdeal.nD Cert.ReferenceIdeal.τ).loc Cert.ReferenceIdeal.main_arg0))
          (m' ((d.tc : Thread Cert.ReferenceIdeal.nD Cert.ReferenceIdeal.τ).loc Cert.ReferenceIdeal.main_arg1)) (i 0).val (i 1).val (i 2).val := by
  unfold refAt
  rw [gate_ideal]
  unfold Cert.ReferenceIdeal.Value.res_main_v35
  rw [ValueIdx.hostDivf_apply]
  have hz (i : S4x3x512.Idx) : broadcastInDim S4x3x512 ![] Cert.ReferenceIdeal.Gen.bcast_S_S4x3x512 (constant (F := Ideal) Cert.ReferenceIdeal.S_ .f32 0x00000000#32) i = (0 : EReal) :=
    (ValueIdx.broadcastInDim_scalar_apply _ _ i).trans zero_ideal
  have hsum (p0 p1 p2 p3 q0 q1 q2 q3 : FVec Ideal S4x16384x512 .f32) :
      addf (addf (addf (addf (broadcastInDim S4x16384x512 ![] Cert.ReferenceIdeal.Gen.bcast_S_S4x16384x512 (constant (F := Ideal) Cert.ReferenceIdeal.S_ .f32 0x00000000#32))
        (mulf p0 q0)) (mulf p1 q1)) (mulf p2 q2)) (mulf p3 q3) i = taps (p0 i) (p1 i) (p2 i) (p3 i) (q0 i) (q1 i) (q2 i) (q3 i) := by
    show ((((broadcastInDim S4x16384x512 ![] Cert.ReferenceIdeal.Gen.bcast_S_S4x16384x512 (constant (F := Ideal) Cert.ReferenceIdeal.S_ .f32 0x00000000#32) i : EReal)
      + (p0 i * q0 i : EReal)) + (p1 i * q1 i : EReal)) + (p2 i * q2 i : EReal)) + (p3 i * q3 i : EReal) = _
    rw [ValueIdx.broadcastInDim_scalar_apply, show (constant (F := Ideal) Cert.ReferenceIdeal.S_ .f32 0x00000000#32 ValueIdx.ix0 : EReal) = 0 from zero_ideal, zero_add]
    rfl
  have hden (v : FVec Ideal S4x16384x512 .f32) :
      (addf (broadcastInDim S4x16384x512 ![] Cert.ReferenceIdeal.Gen.bcast_S_S4x16384x512 (constant (F := Ideal) Cert.ReferenceIdeal.S_ .f32 0x3F800000#32)) (Host.exp (Host.negf v)) i : EReal)
        = 1 + Ideal.exp (-(v i : EReal)) := by
    show (broadcastInDim S4x16384x512 ![] Cert.ReferenceIdeal.Gen.bcast_S_S4x16384x512 (constant (F := Ideal) Cert.ReferenceIdeal.S_ .f32 0x3F800000#32) i : EReal) + _ = _
    rw [ValueIdx.broadcastInDim_scalar_apply]
    exact congrArg (· + _) Ideal.ofBits_one_f32
  rw [hden, hsum]
  exact congrArg (fun v : EReal => Ideal.div v (1 + Ideal.exp (-v))) (taps_congr
    (pad_rows _ _ hz _ (by decide) _ i) (pad_rows _ _ hz _ (by decide) _ i) (pad_rows _ _ hz _ (by decide) _ i) (pad_rows _ _ hz _ (by decide) _ i)
    (spread_tap _ (by decide) _ _ _ _ i) (spread_tap _ (by decide) _ _ _ _ i) (spread_tap _ (by decide) _ _ _ _ i) (spread_tap _ (by decide) _ _ _ _ i))

/-! ## The device's block -/

open Cert.KernelIdeal (nD τ sig main_arg0 main_arg1)

section
variable (m : (ℓ : Loc nD τ sig) → Buf (Elt Ideal) ℓ) (x : FVec Ideal S4x16384x512 .f32)

/-- The whole array's blocks, as the devices hold them. -/
def Holds : Prop := ∀ c : Dev nD, xin m c = Layout.block ⟨3, ![4, 1024, 512]⟩ ⟨3, ![4, 16384, 512]⟩ 1 16 c x

variable {m x}

/-- A row of a device's block is a row of the whole array. -/
theorem block_row (hx : Holds m x) (c : Dev nD) {b s col : ℕ} (hb : b < 4) (hs : s < 1024) (hc : col < 512) :
    (xin m c : Vec Ideal Cert.KernelIdeal.S4x1024x512 .f32) (ix3 b s col) = x (ix3 b (1024 * c.val + s) col) := by
  have hd : c.val < 16 := c.isLt
  rw [hx c]
  refine congrArg x (ext3 ?_ ?_ ?_)
  · rfl
  · show c.val * 1024 + s % 1024 = (1024 * c.val + s) % 16384
    rw [Nat.mod_eq_of_lt hs, Nat.mod_eq_of_lt (by omega)]; omega
  · rfl

/-- A row of the last eight rows of a device's block. -/
theorem tail_row (m : (ℓ : Loc nD τ sig) → Buf (Elt Ideal) ℓ) (c : Dev nD) {b r col : ℕ} (hb : b < 4) (hr : r < 8) (hc : col < 512) :
    xtail m c (ix3 b r col) = (xin m c : Vec Ideal Cert.KernelIdeal.S4x1024x512 .f32) (ix3 b (1016 + r) col) := by
  show (xin m c : Vec Ideal Cert.KernelIdeal.S4x1024x512 .f32) ((Rect.unit (s := Cert.KernelIdeal.S4x1024x512) ![0, 1016, 0] Cert.KernelIdeal.S4x8x512.size _).toLoadRect.idx (ix3 b r col)) = _
  refine congrArg _ (ext3 ?_ ?_ ?_)
  · show 0 + 1 * (b % 4) = b % 4; omega
  · show 1016 + 1 * (r % 8) = (1016 + r) % 1024; omega
  · show 0 + 1 * (col % 512) = col % 512; omega

/-- Row `s` of a device's block with the halo before it is padded row `1024 · c + s` of the whole array. -/
theorem xrow_eq (hx : Holds m x) (c : Dev nD) {b s col : ℕ} (hb : b < 4) (hs : s < 1027) (hc : col < 512) :
    (xrow m c b s col : EReal) = padRow x b (1024 * c.val + s) col := by
  unfold xrow padRow
  by_cases h3 : s < 3
  · rw [if_pos h3]
    unfold haloOf
    by_cases hp : HasPrev c
    · have hv := prv_val hp
      have hq : 0 < c.val := hp
      rw [if_pos hp, if_neg (by omega), tail_row m (prv c) hb (by omega) hc, block_row hx (prv c) hb (by omega) hc]
      exact congrArg (fun n => x (ix3 b n col)) (by omega)
    · have hq : c.val = 0 := Nat.eq_zero_of_not_pos hp
      rw [if_neg hp, if_pos (by omega)]
      exact zero_ideal
  · rw [if_neg h3, if_neg (by omega), block_row hx c hb (by omega) hc]
    exact congrArg (fun n => x (ix3 b n col)) (by omega)

/-- What a device leaves in its output is its block of any array that is, index by index, the reference's result. -/
theorem out_block (hx : Holds m x) (k : FVec Ideal ⟨2, ![4, 512]⟩ .f32) (v : FVec Ideal S4x16384x512 .f32)
    (hv : ∀ i, v i = refAt x k (i 0).val (i 1).val (i 2).val) (c : Dev nD) :
    outC m c k = Layout.block ⟨3, ![4, 1024, 512]⟩ ⟨3, ![4, 16384, 512]⟩ 1 16 c v := by
  funext i
  have h0 : (i 0).val < 4 := lt0 i
  have h1 : (i 1).val < 1024 := lt1 i
  have h2 : (i 2).val < 512 := lt2 i
  rw [Layout.block_apply, hv]
  show outAt m c k (i 0).val (i 1).val (i 2).val = refAt x k (i 0).val (c.val * 1024 + (i 1).val) (i 2).val
  unfold outAt refAt
  rw [xrow_eq hx c h0 (by omega) h2, xrow_eq hx c h0 (by omega) h2, xrow_eq hx c h0 (by omega) h2, xrow_eq hx c h0 (by omega) h2,
    Nat.mul_comm c.val 1024, Nat.add_assoc, Nat.add_assoc, Nat.add_assoc]

end

end Cert.ConvProof

end
-- ==== Proof.lean ====
/-
# The five claims

The run of the whole program, for any float values, is `Cert.ConvProof.run_main` (Proof/Launch.lean): every device's output
ends as `outC`, its arguments as they were, every semaphore at zero. The two frames of the kernel are that run with the
output dropped. That `outC` over the extended reals is the device's block of the reference's result is `out_block`
(Proof/Value.lean). The ideal program is the program's own text, so nothing is left to preserve.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

open Cert.KernelIdeal in
/-- For any float values, the kernel runs on all sixteen devices, leaves its arguments as they were and every semaphore at
    zero. -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h.1 c).2, h.2⟩) (Cert.ConvProof.run_main m ρ)

set_option smartUnfolding false in
/-- The two programs' kernels are one text; -/
theorem bodies_eq : Cert.Kernel.defs₀ (F := Bits) = Cert.KernelIdeal.defs₀ (F := Bits) := rfl

/-- so are the tables their pipelines run in. -/
theorem defs_eq : Cert.Kernel.defs (F := Bits) = Cert.KernelIdeal.defs (F := Bits) :=
  congrArg (Pipeline.defs (Cert.Kernel.pcfgs (F := Bits))) bodies_eq

/-- The kernel on the machine's own floats. -/
theorem frame_kernel : Cert.quiescent_Kernel := fun m ρ _ => by
  rw [defs_eq]
  exact frame_any (F := Bits) m ρ

/-- The kernel over the extended reals. -/
theorem frame_ideal : Cert.quiescent_KernelIdeal := fun m ρ _ => frame_any (F := Ideal) m ρ

/-- The reference runs and leaves its arguments as they were; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals each device's output ends as its block of the reference's result. -/
theorem equal : Cert.algebraic_KernelIdeal_ReferenceIdeal := by
  intro m ρ m' ρ' _ hin
  refine ⟨Cert.ReferenceIdeal.Value.res_main_v35 m' 0, ?_, ?_⟩
  · refine (θ_run Cert.KernelIdeal.defs _ _).mono (fun r h c => ⟨(h.1 c).1.trans ?_, (h.1 c).2⟩) (Cert.ConvProof.run_main (F := Ideal) m ρ)
    rw [(hin c).2]
    exact Cert.ConvProof.out_block (fun d => (hin d).1) _ _ (fun i => Cert.ConvProof.ref_apply m' 0 i) c
  · exact (θ_run Cert.ReferenceIdeal.defs _ _).mono (fun r h => h 0) (Cert.ReferenceIdeal.Value.run (F := Ideal) m' ρ')

/-- The five claims. -/
theorem claim : Cert.Claim :=
  ⟨Cert.Kernel.Gen.facts, Cert.KernelIdeal.Gen.facts, Cert.ReferenceIdeal.Gen.facts, frame_kernel, frame_ideal, frame_reference, trivial, equal⟩

end Cert.Proof

end
